-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_digits_and_tables [hPre_digits_and_tables : Cert.Pre_digits_and_tables.Facts] (m : (ℓ : Loc Cert.KernelIdeal.nD Cert.KernelIdeal.τ Cert.KernelIdeal.sig) → Buf (Elt Ideal) ℓ) : Prop :=
  ∀ c : Dev Cert.KernelIdeal.nD,
    (Cert.Pre_digits_and_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_digits_and_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_digits_and_tables [hPre_digits_and_tables : Cert.Pre_digits_and_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_digits_and_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_digits_and_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_digits_and_tables [hKernelIdeal : Cert.KernelIdeal.Facts] [hPre_digits_and_tables : Cert.Pre_digits_and_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_digits_and_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_digits_and_tables [hReferenceIdeal : Cert.ReferenceIdeal.Facts] [hPre_digits_and_tables : Cert.Pre_digits_and_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_digits_and_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_10000" .f32 0x38D1B717#32 ((1 / 10000 : ℝ) : EReal)
  ∧ IdealRules.named_const.Statement Cert.KernelIdeal.κ "inv_1000" .f32 0x3A83126F#32 ((1 / 1000 : ℝ) : EReal)
  ∧ IdealRules.named_const.Statement Cert.KernelIdeal.κ "inv_100" .f32 0x3C23D70A#32 ((1 / 100 : ℝ) : EReal)
  ∧ IdealRules.named_const.Statement Cert.KernelIdeal.κ "inv_10" .f32 0x3DCCCCCD#32 ((1 / 10 : ℝ) : EReal)

def algebraic_KernelIdeal_ReferenceIdeal_pre_digits_and_tables [hKernelIdeal : Cert.KernelIdeal.Facts] [hReferenceIdeal : Cert.ReferenceIdeal.Facts] [hPre_digits_and_tables : Cert.Pre_digits_and_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_digits_and_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_digits_and_tables : Cert.Pre_digits_and_tables.Facts),
    quiescent_Kernel (hKernel := hKernel)
    ∧ quiescent_KernelIdeal (hKernelIdeal := hKernelIdeal)
    ∧ quiescent_KernelIdeal_pre_digits_and_tables (hKernelIdeal := hKernelIdeal) (hPre_digits_and_tables := hPre_digits_and_tables)
    ∧ quiescent_ReferenceIdeal (hReferenceIdeal := hReferenceIdeal)
    ∧ quiescent_ReferenceIdeal_pre_digits_and_tables (hReferenceIdeal := hReferenceIdeal) (hPre_digits_and_tables := hPre_digits_and_tables)
    ∧ preserves_Kernel_KernelIdeal
    ∧ algebraic_KernelIdeal_ReferenceIdeal_pre_digits_and_tables (hKernelIdeal := hKernelIdeal) (hReferenceIdeal := hReferenceIdeal) (hPre_digits_and_tables := hPre_digits_and_tables)
-- ==== Pre_digits_and_tables.lean ====
abbrev S1024x32x512 : Shape := ⟨3, ![1024, 32, 512]⟩
abbrev S1024x64 : Shape := ⟨2, ![1024, 64]⟩
abbrev S768x512 : Shape := ⟨2, ![768, 512]⟩
abbrev S768 : Shape := ⟨1, ![768]⟩
abbrev S7x10x768 : Shape := ⟨3, ![7, 10, 768]⟩
abbrev S_ : Shape := ⟨0, ![]⟩
abbrev S1x10x768 : Shape := ⟨3, ![1, 10, 768]⟩

class Facts : Prop where
  bcast_S_S1024x64 : S_.BroadcastsInDim S1024x64 (![] : Fin 0 → Fin S1024x64.rank)
  slices_S7x10x768_S1x10x768_0_0_0 : S7x10x768.Slices ![0, 0, 0] S1x10x768
  bcast_S1x10x768_S7x10x768_0_1_2 : S1x10x768.BroadcastsInDim S7x10x768 (![0, 1, 2] : Fin 3 → Fin S7x10x768.rank)

variable [Facts]

def fn {F : FTy → Type} [FloatOps F] (main_arg0 : FVec F S1024x32x512 .f32) (main_arg1 : FVec F S1024x64 .f32) (main_arg2 : FVec F S768x512 .f32) (main_arg3 : FVec F S768 .f32) (main_arg4 : FVec F S7x10x768 .f32) : IVec S1024x64 1 × IVec S7x10x768 1 :=
  let main_cst : FVec F S_ .f32 := constant S_ .f32 0x00000000#32
  let main_v0 : FVec F S1024x64 .f32 := broadcastInDim S1024x64 ![] bcast_S_S1024x64 main_cst
  let main_v1 : IVec S1024x64 1 := cmpf .oge main_arg1 main_v0
  let main_v2 : FVec F S1x10x768 .f32 := (extractStridedSlice S1x10x768 ![0, 0, 0] · slices_S7x10x768_S1x10x768_0_0_0) main_arg4
  let main_v3 : FVec F S7x10x768 .f32 := broadcastInDim S7x10x768 ![0, 1, 2] bcast_S1x10x768_S7x10x768_0_1_2 main_v2
  let main_v4 : IVec S7x10x768 1 := cmpf .oeq main_arg4 main_v3
  (main_v1, main_v4)
-- ==== Kernel.lean ====
abbrev S1024x32x512 : Shape := ⟨3, ![1024, 32, 512]⟩
abbrev S1024x64 : Shape := ⟨2, ![1024, 64]⟩
abbrev S768x512 : Shape := ⟨2, ![768, 512]⟩
abbrev S768 : Shape := ⟨1, ![768]⟩
abbrev S7x10x768 : Shape := ⟨3, ![7, 10, 768]⟩
abbrev S1024x512x32 : Shape := ⟨3, ![1024, 512, 32]⟩
abbrev S1024x64x256 : Shape := ⟨3, ![1024, 64, 256]⟩
abbrev S768x32x16 : Shape := ⟨3, ![768, 32, 16]⟩
abbrev S768x32x8 : Shape := ⟨3, ![768, 32, 8]⟩
abbrev S8x32x768 : Shape := ⟨3, ![8, 32, 768]⟩
abbrev S256x768 : Shape := ⟨2, ![256, 768]⟩
abbrev S1x10x768 : Shape := ⟨3, ![1, 10, 768]⟩
abbrev S10x768 : Shape := ⟨2, ![10, 768]⟩
abbrev S_ : Shape := ⟨0, ![]⟩
abbrev S16x768 : Shape := ⟨2, ![16, 768]⟩
abbrev S1x768 : Shape := ⟨2, ![1, 768]⟩
abbrev S1024x64x768 : Shape := ⟨3, ![1024, 64, 768]⟩
abbrev S32x64x256 : Shape := ⟨3, ![32, 64, 256]⟩
abbrev S32x64 : Shape := ⟨2, ![32, 64]⟩
abbrev S32x64x768 : Shape := ⟨3, ![32, 64, 768]⟩
abbrev S32x256 : Shape := ⟨2, ![32, 256]⟩
abbrev S32x32 : Shape := ⟨2, ![32, 32]⟩
abbrev S32x1x256 : Shape := ⟨3, ![32, 1, 256]⟩
abbrev S2048x256 : Shape := ⟨2, ![2048, 256]⟩
abbrev S2048x32 : Shape := ⟨2, ![2048, 32]⟩
abbrev S2048x768 : Shape := ⟨2, ![2048, 768]⟩
abbrev S32x64x16 : Shape := ⟨3, ![32, 64, 16]⟩
abbrev S32x64x1 : Shape := ⟨3, ![32, 64, 1]⟩
abbrev S2048x16 : Shape := ⟨2, ![2048, 16]⟩

abbrev nBuf : Space → Nat
  | .hbm => 21
  | .vmem => 10
  | .smem => 0
  | _ => 0

abbrev bufTy : (tb : Table) → Fin (tcTables nBuf tb) → BufTy
  | .hbm, ⟨0, _⟩ => ⟨S1024x32x512, .f32⟩
  | .hbm, ⟨1, _⟩ => ⟨S1024x64, .f32⟩
  | .hbm, ⟨2, _⟩ => ⟨S768x512, .f32⟩
  | .hbm, ⟨3, _⟩ => ⟨S768, .f32⟩
  | .hbm, ⟨4, _⟩ => ⟨S7x10x768, .f32⟩
  | .hbm, ⟨5, _⟩ => ⟨S1024x512x32, .f32⟩
  | .hbm, ⟨6, _⟩ => ⟨S1024x64x256, .f32⟩
  | .hbm, ⟨7, _⟩ => ⟨S768x32x16, .f32⟩
  | .hbm, ⟨8, _⟩ => ⟨S768x32x8, .f32⟩
  | .hbm, ⟨9, _⟩ => ⟨S8x32x768, .f32⟩
  | .hbm, ⟨10, _⟩ => ⟨S256x768, .f32⟩
  | .hbm, ⟨11, _⟩ => ⟨S768x32x8, .f32⟩
  | .hbm, ⟨12, _⟩ => ⟨S8x32x768, .f32⟩
  | .hbm, ⟨13, _⟩ => ⟨S256x768, .f32⟩
  | .hbm, ⟨14, _⟩ => ⟨S1x10x768, .f32⟩
  | .hbm, ⟨15, _⟩ => ⟨S10x768, .f32⟩
  | .hbm, ⟨16, _⟩ => ⟨S_, .i32⟩
  | .hbm, ⟨17, _⟩ => ⟨S_, .f32⟩
  | .hbm, ⟨18, _⟩ => ⟨S16x768, .f32⟩
  | .hbm, ⟨19, _⟩ => ⟨S1x768, .f32⟩
  | .hbm, ⟨20, _⟩ => ⟨S1024x64x768, .f32⟩
  | .local _ .vmem, ⟨0, _⟩ => ⟨S32x64x256, .f32⟩
  | .local _ .vmem, ⟨1, _⟩ => ⟨S32x64x256, .f32⟩
  | .local _ .vmem, ⟨2, _⟩ => ⟨S32x64, .f32⟩
  | .local _ .vmem, ⟨3, _⟩ => ⟨S32x64, .f32⟩
  | .local _ .vmem, ⟨4, _⟩ => ⟨S256x768, .f32⟩
  | .local _ .vmem, ⟨5, _⟩ => ⟨S256x768, .f32⟩
  | .local _ .vmem, ⟨6, _⟩ => ⟨S1x768, .f32⟩
  | .local _ .vmem, ⟨7, _⟩ => ⟨S16x768, .f32⟩
  | .local _ .vmem, ⟨8, _⟩ => ⟨S32x64x768, .f32⟩
  | .local _ .vmem, ⟨9, _⟩ => ⟨S32x64x768, .f32⟩
  | _, _ => ⟨S1024x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_c : Ref sig .tc := ⟨.hbm, 16, rfl⟩
abbrev main_call0_call0_v0 : Ref sig .tc := ⟨.hbm, 17, rfl⟩
abbrev main_call0_v11 : Ref sig .tc := ⟨.hbm, 18, rfl⟩
abbrev main_call0_v12 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x64x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "inv_10" => some ((1 / 10 : ℝ) : EReal)
  | "inv_100" => some ((1 / 100 : ℝ) : EReal)
  | "inv_1000" => some ((1 / 1000 : ℝ) : EReal)
  | "inv_10000" => some ((1 / 10000 : ℝ) : EReal)
  | _ => none
-- ==== ReferenceIdeal.lean ====
abbrev S1024x32x512 : Shape := ⟨3, ![1024, 32, 512]⟩
abbrev S1024x64 : Shape := ⟨2, ![1024, 64]⟩
abbrev S768x512 : Shape := ⟨2, ![768, 512]⟩
abbrev S768 : Shape := ⟨1, ![768]⟩
abbrev S7x10x768 : Shape := ⟨3, ![7, 10, 768]⟩
abbrev S_ : Shape := ⟨0, ![]⟩
abbrev S1024x32 : Shape := ⟨2, ![1024, 32]⟩
abbrev S1024x32x1 : Shape := ⟨3, ![1024, 32, 1]⟩
abbrev S1024x32x1x8 : Shape := ⟨4, ![1024, 32, 1, 8]⟩
abbrev S1024x32x8 : Shape := ⟨3, ![1024, 32, 8]⟩
abbrev S1024x32x520 : Shape := ⟨3, ![1024, 32, 520]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S64x16x1 : Shape := ⟨3, ![64, 16, 1]⟩
abbrev S1024x32x64x16 : Shape := ⟨4, ![1024, 32, 64, 16]⟩
abbrev S1024x64x32x16 : Shape := ⟨4, ![1024, 64, 32, 16]⟩
abbrev S1024x64x512 : Shape := ⟨3, ![1024, 64, 512]⟩
abbrev S512x768 : Shape := ⟨2, ![512, 768]⟩
abbrev S1024x64x768 : Shape := ⟨3, ![1024, 64, 768]⟩
abbrev S1x1x768 : Shape := ⟨3, ![1, 1, 768]⟩
abbrev S1x10x768 : Shape := ⟨3, ![1, 10, 768]⟩
abbrev S10x768 : Shape := ⟨2, ![10, 768]⟩
abbrev S1024x64x1 : Shape := ⟨3, ![1024, 64, 1]⟩
abbrev S1 : Shape := ⟨1, ![1]⟩
abbrev S1x1x1 : Shape := ⟨3, ![1, 1, 1]⟩

abbrev nBuf : Space → Nat
  | .hbm => 408
  | .vmem => 0
  | .smem => 0
  | _ => 0

abbrev hbmTy0_0 (i : Nat) : BufTy := match i % 128 with
  | 0 => ⟨S1024x32x512, .f32⟩
  | 1 => ⟨S1024x64, .f32⟩
  | 2 => ⟨S768x512, .f32⟩
  | 3 => ⟨S768, .f32⟩
  | 4 => ⟨S7x10x768, .f32⟩
  | 5 => ⟨S_, .f32⟩
  | 6 => ⟨S1024x32, .f32⟩
  | 7 => ⟨S1024x32x1, .f32⟩
  | 8 => ⟨S_, .f32⟩
  | 9 => ⟨S1024x32x1, .f32⟩
  | 10 => ⟨S1024x32x1, .f32⟩
  | 11 => ⟨S1024x32x512, .f32⟩
  | 12 => ⟨S1024x32x512, .f32⟩
  | 13 => ⟨S1024x32x512, .f32⟩
  | 14 => ⟨S_, .f32⟩
  | 15 => ⟨S1024x32, .f32⟩
  | 16 => ⟨S1024x32x1, .f32⟩
  | 17 => ⟨S_, .f32⟩
  | 18 => ⟨S1024x32x1, .f32⟩
  | 19 => ⟨S1024x32x1, .f32⟩
  | 20 => ⟨S1024x32x1, .f32⟩
  | 21 => ⟨S_, .f32⟩
  | 22 => ⟨S1024x32x1, .f32⟩
  | 23 => ⟨S1024x32x1, .f32⟩
  | 24 => ⟨S1024x32x512, .f32⟩
  | 25 => ⟨S1024x32x512, .f32⟩
  | 26 => ⟨S1024x32x512, .f32⟩
  | 27 => ⟨S1024x32x512, .f32⟩
  | 28 => ⟨S1024x32x1, .f32⟩
  | 29 => ⟨S1024x32x1x8, .f32⟩
  | 30 => ⟨S1024x32x8, .f32⟩
  | 31 => ⟨S1024x32x520, .f32⟩
  | 32 => ⟨S64, .i32⟩
  | 33 => ⟨S_, .i32⟩
  | 34 => ⟨S64, .i32⟩
  | 35 => ⟨S64, .i32⟩
  | 36 => ⟨S64x1, .i32⟩
  | 37 => ⟨S16, .i32⟩
  | 38 => ⟨S1x16, .i32⟩
  | 39 => ⟨S64x16, .i32⟩
  | 40 => ⟨S64x16, .i32⟩
  | 41 => ⟨S64x16, .i32⟩
  | 42 => ⟨S_, .i32⟩
  | 43 => ⟨S64x16, .i32⟩
  | 44 => ⟨S64x16, .i1⟩
  | 45 => ⟨S_, .i32⟩
  | 46 => ⟨S64x16, .i32⟩
  | 47 => ⟨S64x16, .i32⟩
  | 48 => ⟨S64x16, .i32⟩
  | 49 => ⟨S64x16x1, .i32⟩
  | 50 => ⟨S1024x32x64x16, .f32⟩
  | 51 => ⟨S1024x64x32x16, .f32⟩
  | 52 => ⟨S1024x64x512, .f32⟩
  | 53 => ⟨S512x768, .f32⟩
  | 54 => ⟨S1024x64x768, .f32⟩
  | 55 => ⟨S1x1x768, .f32⟩
  | 56 => ⟨S1024x64x768, .f32⟩
  | 57 => ⟨S1024x64x768, .f32⟩
  | 58 => ⟨S_, .f32⟩
  | 59 => ⟨S1024x64, .f32⟩
  | 60 => ⟨S1024x64, .f32⟩
  | 61 => ⟨S_, .f32⟩
  | 62 => ⟨S_, .f32⟩
  | 63 => ⟨S1024x64, .f32⟩
  | 64 => ⟨S1024x64, .f32⟩
  | 65 => ⟨S1024x64, .f32⟩
  | 66 => ⟨S_, .f32⟩
  | 67 => ⟨S1024x64, .f32⟩
  | 68 => ⟨S1024x64, .f32⟩
  | 69 => ⟨S_, .f32⟩
  | 70 => ⟨S1024x64, .f32⟩
  | 71 => ⟨S1024x64, .f32⟩
  | 72 => ⟨S1024x64, .f32⟩
  | 73 => ⟨S1024x64, .i32⟩
  | 74 => ⟨S_, .i32⟩
  | 75 => ⟨S_, .i32⟩
  | 76 => ⟨S_, .i32⟩
  | 77 => ⟨S1024x64, .i32⟩
  | 78 => ⟨S1024x64, .i32⟩
  | 79 => ⟨S_, .i32⟩
  | 80 => ⟨S1024x64, .i32⟩
  | 81 => ⟨S1024x64, .i32⟩
  | 82 => ⟨S1x10x768, .f32⟩
  | 83 => ⟨S10x768, .f32⟩
  | 84 => ⟨S_, .i32⟩
  | 85 => ⟨S1024x64, .i32⟩
  | 86 => ⟨S1024x64, .i1⟩
  | 87 => ⟨S_, .i32⟩
  | 88 => ⟨S1024x64, .i32⟩
  | 89 => ⟨S1024x64, .i32⟩
  | 90 => ⟨S1024x64, .i32⟩
  | 91 => ⟨S1024x64x1, .i32⟩
  | 92 => ⟨S1, .i32⟩
  | 93 => ⟨S_, .i32⟩
  | 94 => ⟨S1024x64x1, .i32⟩
  | 95 => ⟨S1024x64x1, .i1⟩
  | 96 => ⟨S1x1x1, .i32⟩
  | 97 => ⟨S1024x64x1, .i32⟩
  | 98 => ⟨S1024x64x1, .i1⟩
  | 99 => ⟨S1024x64x1, .i1⟩
  | 100 => ⟨S_, .i1⟩
  | 101 => ⟨S1024x64, .i1⟩
  | 102 => ⟨S1024x64x768, .f32⟩
  | 103 => ⟨S1024x64x768, .i1⟩
  | 104 => ⟨S_, .f32⟩
  | 105 => ⟨S1024x64x768, .f32⟩
  | 106 => ⟨S1024x64x768, .f32⟩
  | 107 => ⟨S_, .f32⟩
  | 108 => ⟨S1024x64, .f32⟩
  | 109 => ⟨S1024x64, .f32⟩
  | 110 => ⟨S_, .f32⟩
  | 111 => ⟨S_, .f32⟩
  | 112 => ⟨S1024x64, .f32⟩
  | 113 => ⟨S1024x64, .f32⟩
  | 114 => ⟨S1024x64, .f32⟩
  | 115 => ⟨S_, .f32⟩
  | 116 => ⟨S1024x64, .f32⟩
  | 117 => ⟨S1024x64, .f32⟩
  | 118 => ⟨S_, .f32⟩
  | 119 => ⟨S1024x64, .f32⟩
  | 120 => ⟨S1024x64, .f32⟩
  | 121 => ⟨S1024x64, .f32⟩
  | 122 => ⟨S1024x64, .i32⟩
  | 123 => ⟨S_, .i32⟩
  | 124 => ⟨S_, .i32⟩
  | 125 => ⟨S_, .i32⟩
  | 126 => ⟨S1024x64, .i32⟩
  | 127 => ⟨S1024x64, .i32⟩
  | _ => ⟨S1024x32x512, .f32⟩

abbrev hbmTy0_1 (i : Nat) : BufTy := match i % 128 with
  | 0 => ⟨S_, .i32⟩
  | 1 => ⟨S1024x64, .i32⟩
  | 2 => ⟨S1024x64, .i32⟩
  | 3 => ⟨S1x10x768, .f32⟩
  | 4 => ⟨S10x768, .f32⟩
  | 5 => ⟨S_, .i32⟩
  | 6 => ⟨S1024x64, .i32⟩
  | 7 => ⟨S1024x64, .i1⟩
  | 8 => ⟨S_, .i32⟩
  | 9 => ⟨S1024x64, .i32⟩
  | 10 => ⟨S1024x64, .i32⟩
  | 11 => ⟨S1024x64, .i32⟩
  | 12 => ⟨S1024x64x1, .i32⟩
  | 13 => ⟨S1, .i32⟩
  | 14 => ⟨S_, .i32⟩
  | 15 => ⟨S1024x64x1, .i32⟩
  | 16 => ⟨S1024x64x1, .i1⟩
  | 17 => ⟨S1x1x1, .i32⟩
  | 18 => ⟨S1024x64x1, .i32⟩
  | 19 => ⟨S1024x64x1, .i1⟩
  | 20 => ⟨S1024x64x1, .i1⟩
  | 21 => ⟨S_, .i1⟩
  | 22 => ⟨S1024x64, .i1⟩
  | 23 => ⟨S1024x64x768, .f32⟩
  | 24 => ⟨S1024x64x768, .i1⟩
  | 25 => ⟨S_, .f32⟩
  | 26 => ⟨S1024x64x768, .f32⟩
  | 27 => ⟨S1024x64x768, .f32⟩
  | 28 => ⟨S1024x64x768, .f32⟩
  | 29 => ⟨S_, .f32⟩
  | 30 => ⟨S1024x64, .f32⟩
  | 31 => ⟨S1024x64, .f32⟩
  | 32 => ⟨S_, .f32⟩
  | 33 => ⟨S_, .f32⟩
  | 34 => ⟨S1024x64, .f32⟩
  | 35 => ⟨S1024x64, .f32⟩
  | 36 => ⟨S1024x64, .f32⟩
  | 37 => ⟨S_, .f32⟩
  | 38 => ⟨S1024x64, .f32⟩
  | 39 => ⟨S1024x64, .f32⟩
  | 40 => ⟨S_, .f32⟩
  | 41 => ⟨S1024x64, .f32⟩
  | 42 => ⟨S1024x64, .f32⟩
  | 43 => ⟨S1024x64, .f32⟩
  | 44 => ⟨S1024x64, .i32⟩
  | 45 => ⟨S_, .i32⟩
  | 46 => ⟨S_, .i32⟩
  | 47 => ⟨S_, .i32⟩
  | 48 => ⟨S1024x64, .i32⟩
  | 49 => ⟨S1024x64, .i32⟩
  | 50 => ⟨S_, .i32⟩
  | 51 => ⟨S1024x64, .i32⟩
  | 52 => ⟨S1024x64, .i32⟩
  | 53 => ⟨S1x10x768, .f32⟩
  | 54 => ⟨S10x768, .f32⟩
  | 55 => ⟨S_, .i32⟩
  | 56 => ⟨S1024x64, .i32⟩
  | 57 => ⟨S1024x64, .i1⟩
  | 58 => ⟨S_, .i32⟩
  | 59 => ⟨S1024x64, .i32⟩
  | 60 => ⟨S1024x64, .i32⟩
  | 61 => ⟨S1024x64, .i32⟩
  | 62 => ⟨S1024x64x1, .i32⟩
  | 63 => ⟨S1, .i32⟩
  | 64 => ⟨S_, .i32⟩
  | 65 => ⟨S1024x64x1, .i32⟩
  | 66 => ⟨S1024x64x1, .i1⟩
  | 67 => ⟨S1x1x1, .i32⟩
  | 68 => ⟨S1024x64x1, .i32⟩
  | 69 => ⟨S1024x64x1, .i1⟩
  | 70 => ⟨S1024x64x1, .i1⟩
  | 71 => ⟨S_, .i1⟩
  | 72 => ⟨S1024x64, .i1⟩
  | 73 => ⟨S1024x64x768, .f32⟩
  | 74 => ⟨S1024x64x768, .i1⟩
  | 75 => ⟨S_, .f32⟩
  | 76 => ⟨S1024x64x768, .f32⟩
  | 77 => ⟨S1024x64x768, .f32⟩
  | 78 => ⟨S1024x64x768, .f32⟩
  | 79 => ⟨S_, .f32⟩
  | 80 => ⟨S1024x64, .f32⟩
  | 81 => ⟨S1024x64, .f32⟩
  | 82 => ⟨S_, .f32⟩
  | 83 => ⟨S_, .f32⟩
  | 84 => ⟨S1024x64, .f32⟩
  | 85 => ⟨S1024x64, .f32⟩
  | 86 => ⟨S1024x64, .f32⟩
  | 87 => ⟨S_, .f32⟩
  | 88 => ⟨S1024x64, .f32⟩
  | 89 => ⟨S1024x64, .f32⟩
  | 90 => ⟨S_, .f32⟩
  | 91 => ⟨S1024x64, .f32⟩
  | 92 => ⟨S1024x64, .f32⟩
  | 93 => ⟨S1024x64, .f32⟩
  | 94 => ⟨S1024x64, .i32⟩
  | 95 => ⟨S_, .i32⟩
  | 96 => ⟨S_, .i32⟩
  | 97 => ⟨S_, .i32⟩
  | 98 => ⟨S1024x64, .i32⟩
  | 99 => ⟨S1024x64, .i32⟩
  | 100 => ⟨S_, .i32⟩
  | 101 => ⟨S1024x64, .i32⟩
  | 102 => ⟨S1024x64, .i32⟩
  | 103 => ⟨S1x10x768, .f32⟩
  | 104 => ⟨S10x768, .f32⟩
  | 105 => ⟨S_, .i32⟩
  | 106 => ⟨S1024x64, .i32⟩
  | 107 => ⟨S1024x64, .i1⟩
  | 108 => ⟨S_, .i32⟩
  | 109 => ⟨S1024x64, .i32⟩
  | 110 => ⟨S1024x64, .i32⟩
  | 111 => ⟨S1024x64, .i32⟩
  | 112 => ⟨S1024x64x1, .i32⟩
  | 113 => ⟨S1, .i32⟩
  | 114 => ⟨S_, .i32⟩
  | 115 => ⟨S1024x64x1, .i32⟩
  | 116 => ⟨S1024x64x1, .i1⟩
  | 117 => ⟨S1x1x1, .i32⟩
  | 118 => ⟨S1024x64x1, .i32⟩
  | 119 => ⟨S1024x64x1, .i1⟩
  | 120 => ⟨S1024x64x1, .i1⟩
  | 121 => ⟨S_, .i1⟩
  | 122 => ⟨S1024x64, .i1⟩
  | 123 => ⟨S1024x64x768, .f32⟩
  | 124 => ⟨S1024x64x768, .i1⟩
  | 125 => ⟨S_, .f32⟩
  | 126 => ⟨S1024x64x768, .f32⟩
  | 127 => ⟨S1024x64x768, .f32⟩
  | _ => ⟨S1024x32x512, .f32⟩

abbrev hbmTy0_2 (i : Nat) : BufTy := match i % 128 with
  | 0 => ⟨S1024x64x768, .f32⟩
  | 1 => ⟨S_, .f32⟩
  | 2 => ⟨S1024x64, .f32⟩
  | 3 => ⟨S1024x64, .f32⟩
  | 4 => ⟨S_, .f32⟩
  | 5 => ⟨S_, .f32⟩
  | 6 => ⟨S1024x64, .f32⟩
  | 7 => ⟨S1024x64, .f32⟩
  | 8 => ⟨S1024x64, .f32⟩
  | 9 => ⟨S_, .f32⟩
  | 10 => ⟨S1024x64, .f32⟩
  | 11 => ⟨S1024x64, .f32⟩
  | 12 => ⟨S_, .f32⟩
  | 13 => ⟨S1024x64, .f32⟩
  | 14 => ⟨S1024x64, .f32⟩
  | 15 => ⟨S1024x64, .f32⟩
  | 16 => ⟨S1024x64, .i32⟩
  | 17 => ⟨S_, .i32⟩
  | 18 => ⟨S_, .i32⟩
  | 19 => ⟨S_, .i32⟩
  | 20 => ⟨S1024x64, .i32⟩
  | 21 => ⟨S1024x64, .i32⟩
  | 22 => ⟨S_, .i32⟩
  | 23 => ⟨S1024x64, .i32⟩
  | 24 => ⟨S1024x64, .i32⟩
  | 25 => ⟨S1x10x768, .f32⟩
  | 26 => ⟨S10x768, .f32⟩
  | 27 => ⟨S_, .i32⟩
  | 28 => ⟨S1024x64, .i32⟩
  | 29 => ⟨S1024x64, .i1⟩
  | 30 => ⟨S_, .i32⟩
  | 31 => ⟨S1024x64, .i32⟩
  | 32 => ⟨S1024x64, .i32⟩
  | 33 => ⟨S1024x64, .i32⟩
  | 34 => ⟨S1024x64x1, .i32⟩
  | 35 => ⟨S1, .i32⟩
  | 36 => ⟨S_, .i32⟩
  | 37 => ⟨S1024x64x1, .i32⟩
  | 38 => ⟨S1024x64x1, .i1⟩
  | 39 => ⟨S1x1x1, .i32⟩
  | 40 => ⟨S1024x64x1, .i32⟩
  | 41 => ⟨S1024x64x1, .i1⟩
  | 42 => ⟨S1024x64x1, .i1⟩
  | 43 => ⟨S_, .i1⟩
  | 44 => ⟨S1024x64, .i1⟩
  | 45 => ⟨S1024x64x768, .f32⟩
  | 46 => ⟨S1024x64x768, .i1⟩
  | 47 => ⟨S_, .f32⟩
  | 48 => ⟨S1024x64x768, .f32⟩
  | 49 => ⟨S1024x64x768, .f32⟩
  | 50 => ⟨S1024x64x768, .f32⟩
  | 51 => ⟨S_, .f32⟩
  | 52 => ⟨S1024x64, .f32⟩
  | 53 => ⟨S1024x64, .f32⟩
  | 54 => ⟨S_, .f32⟩
  | 55 => ⟨S_, .f32⟩
  | 56 => ⟨S1024x64, .f32⟩
  | 57 => ⟨S1024x64, .f32⟩
  | 58 => ⟨S1024x64, .f32⟩
  | 59 => ⟨S_, .f32⟩
  | 60 => ⟨S1024x64, .f32⟩
  | 61 => ⟨S1024x64, .f32⟩
  | 62 => ⟨S_, .f32⟩
  | 63 => ⟨S1024x64, .f32⟩
  | 64 => ⟨S1024x64, .f32⟩
  | 65 => ⟨S1024x64, .f32⟩
  | 66 => ⟨S1024x64, .i32⟩
  | 67 => ⟨S_, .i32⟩
  | 68 => ⟨S_, .i32⟩
  | 69 => ⟨S_, .i32⟩
  | 70 => ⟨S1024x64, .i32⟩
  | 71 => ⟨S1024x64, .i32⟩
  | 72 => ⟨S_, .i32⟩
  | 73 => ⟨S1024x64, .i32⟩
  | 74 => ⟨S1024x64, .i32⟩
  | 75 => ⟨S1x10x768, .f32⟩
  | 76 => ⟨S10x768, .f32⟩
  | 77 => ⟨S_, .i32⟩
  | 78 => ⟨S1024x64, .i32⟩
  | 79 => ⟨S1024x64, .i1⟩
  | 80 => ⟨S_, .i32⟩
  | 81 => ⟨S1024x64, .i32⟩
  | 82 => ⟨S1024x64, .i32⟩
  | 83 => ⟨S1024x64, .i32⟩
  | 84 => ⟨S1024x64x1, .i32⟩
  | 85 => ⟨S1, .i32⟩
  | 86 => ⟨S_, .i32⟩
  | 87 => ⟨S1024x64x1, .i32⟩
  | 88 => ⟨S1024x64x1, .i1⟩
  | 89 => ⟨S1x1x1, .i32⟩
  | 90 => ⟨S1024x64x1, .i32⟩
  | 91 => ⟨S1024x64x1, .i1⟩
  | 92 => ⟨S1024x64x1, .i1⟩
  | 93 => ⟨S_, .i1⟩
  | 94 => ⟨S1024x64, .i1⟩
  | 95 => ⟨S1024x64x768, .f32⟩
  | 96 => ⟨S1024x64x768, .i1⟩
  | 97 => ⟨S_, .f32⟩
  | 98 => ⟨S1024x64x768, .f32⟩
  | 99 => ⟨S1024x64x768, .f32⟩
  | 100 => ⟨S1024x64x768, .f32⟩
  | 101 => ⟨S_, .f32⟩
  | 102 => ⟨S1024x64, .f32⟩
  | 103 => ⟨S1024x64, .f32⟩
  | 104 => ⟨S_, .f32⟩
  | 105 => ⟨S_, .f32⟩
  | 106 => ⟨S1024x64, .f32⟩
  | 107 => ⟨S1024x64, .f32⟩
  | 108 => ⟨S1024x64, .f32⟩
  | 109 => ⟨S_, .f32⟩
  | 110 => ⟨S1024x64, .f32⟩
  | 111 => ⟨S1024x64, .f32⟩
  | 112 => ⟨S_, .f32⟩
  | 113 => ⟨S1024x64, .f32⟩
  | 114 => ⟨S1024x64, .f32⟩
  | 115 => ⟨S1024x64, .f32⟩
  | 116 => ⟨S1024x64, .i32⟩
  | 117 => ⟨S_, .i32⟩
  | 118 => ⟨S_, .i32⟩
  | 119 => ⟨S_, .i32⟩
  | 120 => ⟨S1024x64, .i32⟩
  | 121 => ⟨S1024x64, .i32⟩
  | 122 => ⟨S_, .i32⟩
  | 123 => ⟨S1024x64, .i32⟩
  | 124 => ⟨S1024x64, .i32⟩
  | 125 => ⟨S1x10x768, .f32⟩
  | 126 => ⟨S10x768, .f32⟩
  | 127 => ⟨S_, .i32⟩
  | _ => ⟨S1024x32x512, .f32⟩

abbrev hbmTy0_3 (i : Nat) : BufTy := match i % 128 with
  | 0 => ⟨S1024x64, .i32⟩
  | 1 => ⟨S1024x64, .i1⟩
  | 2 => ⟨S_, .i32⟩
  | 3 => ⟨S1024x64, .i32⟩
  | 4 => ⟨S1024x64, .i32⟩
  | 5 => ⟨S1024x64, .i32⟩
  | 6 => ⟨S1024x64x1, .i32⟩
  | 7 => ⟨S1, .i32⟩
  | 8 => ⟨S_, .i32⟩
  | 9 => ⟨S1024x64x1, .i32⟩
  | 10 => ⟨S1024x64x1, .i1⟩
  | 11 => ⟨S1x1x1, .i32⟩
  | 12 => ⟨S1024x64x1, .i32⟩
  | 13 => ⟨S1024x64x1, .i1⟩
  | 14 => ⟨S1024x64x1, .i1⟩
  | 15 => ⟨S_, .i1⟩
  | 16 => ⟨S1024x64, .i1⟩
  | 17 => ⟨S1024x64x768, .f32⟩
  | 18 => ⟨S1024x64x768, .i1⟩
  | 19 => ⟨S_, .f32⟩
  | 20 => ⟨S1024x64x768, .f32⟩
  | 21 => ⟨S1024x64x768, .f32⟩
  | 22 => ⟨S1024x64x768, .f32⟩
  | 23 => ⟨S1024x64x768, .f32⟩
  | _ => ⟨S1024x32x512, .f32⟩

abbrev hbmTy (i : Nat) : BufTy := match i / 128 with
  | 0 => hbmTy0_0 i
  | 1 => hbmTy0_1 i
  | 2 => hbmTy0_2 i
  | 3 => hbmTy0_3 i
  | _ => ⟨S1024x32x512, .f32⟩

abbrev bufTy : (tb : Table) → Fin (tcTables nBuf tb) → BufTy
  | .hbm, ⟨i, _⟩ => hbmTy i
  | _, _ => ⟨S1024x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_call0_v0 : Ref sig .tc := ⟨.hbm, 62, rfl⟩
abbrev main_call0_v1 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_10 : Ref sig .tc := ⟨.hbm, 74, rfl⟩
abbrev main_c_11 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_cst : Ref sig .tc := ⟨.hbm, 104, rfl⟩
abbrev main_call2_v15 : Ref sig .tc := ⟨.hbm, 105, rfl⟩
abbrev main_v58 : Ref sig .tc := ⟨.hbm, 106, rfl⟩
abbrev main_cst_12 : Ref sig .tc := ⟨.hbm, 107, rfl⟩
abbrev main_v59 : Ref sig .tc := ⟨.hbm, 108, rfl⟩
abbrev main_v60 : Ref sig .tc := ⟨.hbm, 109, rfl⟩
abbrev main_cst_13 : Ref sig .tc := ⟨.hbm, 110, rfl⟩
abbrev main_call3_v0 : Ref sig .tc := ⟨.hbm, 111, rfl⟩
abbrev main_call3_v1 : Ref sig .tc := ⟨.hbm, 112, rfl⟩
abbrev main_v61 : Ref sig .tc := ⟨.hbm, 113, rfl⟩
abbrev main_v62 : Ref sig .tc := ⟨.hbm, 114, rfl⟩
abbrev main_cst_14 : Ref sig .tc := ⟨.hbm, 115, rfl⟩
abbrev main_v63 : Ref sig .tc := ⟨.hbm, 116, rfl⟩
abbrev main_v64 : Ref sig .tc := ⟨.hbm, 117, rfl⟩
abbrev main_cst_15 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_c_16 : Ref sig .tc := ⟨.hbm, 123, rfl⟩
abbrev main_c_17 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_call5_c : Ref sig .tc := ⟨.hbm, 133, rfl⟩
abbrev main_call5_v0 : Ref sig .tc := ⟨.hbm, 134, rfl⟩
abbrev main_call5_v1 : Ref sig .tc := ⟨.hbm, 135, rfl⟩
abbrev main_call5_c_0 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_call5_v5 : Ref sig .tc := ⟨.hbm, 140, rfl⟩
abbrev main_call5_c_1 : Ref sig .tc := ⟨.hbm, 141, rfl⟩
abbrev main_call5_c_2 : Ref sig .tc := ⟨.hbm, 142, rfl⟩
abbrev main_call5_v6 : Ref sig .tc := ⟨.hbm, 143, rfl⟩
abbrev main_call5_v7 : Ref sig .tc := ⟨.hbm, 144, rfl⟩
abbrev main_call5_v8 : Ref sig .tc := ⟨.hbm, 145, rfl⟩
abbrev main_call5_v9 : Ref sig .tc := ⟨.hbm, 146, rfl⟩
abbrev main_call5_v10 : Ref sig .tc := ⟨.hbm, 147, rfl⟩
abbrev main_call5_v11 : Ref sig .tc := ⟨.hbm, 148, rfl⟩
abbrev main_call5_c_3 : Ref sig .tc := ⟨.hbm, 149, rfl⟩
abbrev main_call5_v12 : Ref sig .tc := ⟨.hbm, 150, rfl⟩
abbrev main_call5_v13 : Ref sig .tc := ⟨.hbm, 151, rfl⟩
abbrev main_call5_v14 : Ref sig .tc := ⟨.hbm, 152, rfl⟩
abbrev main_call5_cst : Ref sig .tc := ⟨.hbm, 153, rfl⟩
abbrev main_call5_v15 : Ref sig .tc := ⟨.hbm, 154, rfl⟩
abbrev main_v72 : Ref sig .tc := ⟨.hbm, 155, rfl⟩
abbrev main_v73 : Ref sig .tc := ⟨.hbm, 156, rfl⟩
abbrev main_cst_18 : Ref sig .tc := ⟨.hbm, 157, rfl⟩
abbrev main_v74 : Ref sig .tc := ⟨.hbm, 158, rfl⟩
abbrev main_v75 : Ref sig .tc := ⟨.hbm, 159, rfl⟩
abbrev main_cst_19 : Ref sig .tc := ⟨.hbm, 160, rfl⟩
abbrev main_call6_v0 : Ref sig .tc := ⟨.hbm, 161, rfl⟩
abbrev main_call6_v1 : Ref sig .tc := ⟨.hbm, 162, rfl⟩
abbrev main_v76 : Ref sig .tc := ⟨.hbm, 163, rfl⟩
abbrev main_v77 : Ref sig .tc := ⟨.hbm, 164, rfl⟩
abbrev main_cst_20 : Ref sig .tc := ⟨.hbm, 165, rfl⟩
abbrev main_v78 : Ref sig .tc := ⟨.hbm, 166, rfl⟩
abbrev main_v79 : Ref sig .tc := ⟨.hbm, 167, rfl⟩
abbrev main_cst_21 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_c_22 : Ref sig .tc := ⟨.hbm, 173, rfl⟩
abbrev main_c_23 : Ref sig .tc := ⟨.hbm, 174, rfl⟩
abbrev main_call7_v0 : Ref sig .tc := ⟨.hbm, 175, rfl⟩
abbrev main_call7_v1 : Ref sig .tc := ⟨.hbm, 176, rfl⟩
abbrev main_call7_v2 : Ref sig .tc := ⟨.hbm, 177, rfl⟩
abbrev main_call7_v3 : Ref sig .tc := ⟨.hbm, 178, rfl⟩
abbrev main_call7_v4 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_call8_c : Ref sig .tc := ⟨.hbm, 183, rfl⟩
abbrev main_call8_v0 : Ref sig .tc := ⟨.hbm, 184, rfl⟩
abbrev main_call8_v1 : Ref sig .tc := ⟨.hbm, 185, rfl⟩
abbrev main_call8_c_0 : Ref sig .tc := ⟨.hbm, 186, rfl⟩
abbrev main_call8_v2 : Ref sig .tc := ⟨.hbm, 187, rfl⟩
abbrev main_call8_v3 : Ref sig .tc := ⟨.hbm, 188, rfl⟩
abbrev main_call8_v4 : Ref sig .tc := ⟨.hbm, 189, rfl⟩
abbrev main_call8_v5 : Ref sig .tc := ⟨.hbm, 190, rfl⟩
abbrev main_call8_c_1 : Ref sig .tc := ⟨.hbm, 191, rfl⟩
abbrev main_call8_c_2 : Ref sig .tc := ⟨.hbm, 192, rfl⟩
abbrev main_call8_v6 : Ref sig .tc := ⟨.hbm, 193, rfl⟩
abbrev main_call8_v7 : Ref sig .tc := ⟨.hbm, 194, rfl⟩
abbrev main_call8_v8 : Ref sig .tc := ⟨.hbm, 195, rfl⟩
abbrev main_call8_v9 : Ref sig .tc := ⟨.hbm, 196, rfl⟩
abbrev main_call8_v10 : Ref sig .tc := ⟨.hbm, 197, rfl⟩
abbrev main_call8_v11 : Ref sig .tc := ⟨.hbm, 198, rfl⟩
abbrev main_call8_c_3 : Ref sig .tc := ⟨.hbm, 199, rfl⟩
abbrev main_call8_v12 : Ref sig .tc := ⟨.hbm, 200, rfl⟩
abbrev main_call8_v13 : Ref sig .tc := ⟨.hbm, 201, rfl⟩
abbrev main_call8_v14 : Ref sig .tc := ⟨.hbm, 202, rfl⟩
abbrev main_call8_cst : Ref sig .tc := ⟨.hbm, 203, rfl⟩
abbrev main_call8_v15 : Ref sig .tc := ⟨.hbm, 204, rfl⟩
abbrev main_v87 : Ref sig .tc := ⟨.hbm, 205, rfl⟩
abbrev main_v88 : Ref sig .tc := ⟨.hbm, 206, rfl⟩
abbrev main_cst_24 : Ref sig .tc := ⟨.hbm, 207, rfl⟩
abbrev main_v89 : Ref sig .tc := ⟨.hbm, 208, rfl⟩
abbrev main_v90 : Ref sig .tc := ⟨.hbm, 209, rfl⟩
abbrev main_cst_25 : Ref sig .tc := ⟨.hbm, 210, rfl⟩
abbrev main_call9_v0 : Ref sig .tc := ⟨.hbm, 211, rfl⟩
abbrev main_call9_v1 : Ref sig .tc := ⟨.hbm, 212, rfl⟩
abbrev main_v91 : Ref sig .tc := ⟨.hbm, 213, rfl⟩
abbrev main_v92 : Ref sig .tc := ⟨.hbm, 214, rfl⟩
abbrev main_cst_26 : Ref sig .tc := ⟨.hbm, 215, rfl⟩
abbrev main_v93 : Ref sig .tc := ⟨.hbm, 216, rfl⟩
abbrev main_v94 : Ref sig .tc := ⟨.hbm, 217, rfl⟩
abbrev main_cst_27 : Ref sig .tc := ⟨.hbm, 218, rfl⟩
abbrev main_v95 : Ref sig .tc := ⟨.hbm, 219, rfl⟩
abbrev main_v96 : Ref sig .tc := ⟨.hbm, 220, rfl⟩
abbrev main_v97 : Ref sig .tc := ⟨.hbm, 221, rfl⟩
abbrev main_v98 : Ref sig .tc := ⟨.hbm, 222, rfl⟩
abbrev main_c_28 : Ref sig .tc := ⟨.hbm, 223, rfl⟩
abbrev main_c_29 : Ref sig .tc := ⟨.hbm, 224, rfl⟩
abbrev main_call10_v0 : Ref sig .tc := ⟨.hbm, 225, rfl⟩
abbrev main_call10_v1 : Ref sig .tc := ⟨.hbm, 226, rfl⟩
abbrev main_call10_v2 : Ref sig .tc := ⟨.hbm, 227, rfl⟩
abbrev main_call10_v3 : Ref sig .tc := ⟨.hbm, 228, rfl⟩
abbrev main_call10_v4 : Ref sig .tc := ⟨.hbm, 229, rfl⟩
abbrev main_v99 : Ref sig .tc := ⟨.hbm, 230, rfl⟩
abbrev main_v100 : Ref sig .tc := ⟨.hbm, 231, rfl⟩
abbrev main_v101 : Ref sig .tc := ⟨.hbm, 232, rfl⟩
abbrev main_call11_c : Ref sig .tc := ⟨.hbm, 233, rfl⟩
abbrev main_call11_v0 : Ref sig .tc := ⟨.hbm, 234, rfl⟩
abbrev main_call11_v1 : Ref sig .tc := ⟨.hbm, 235, rfl⟩
abbrev main_call11_c_0 : Ref sig .tc := ⟨.hbm, 236, rfl⟩
abbrev main_call11_v2 : Ref sig .tc := ⟨.hbm, 237, rfl⟩
abbrev main_call11_v3 : Ref sig .tc := ⟨.hbm, 238, rfl⟩
abbrev main_call11_v4 : Ref sig .tc := ⟨.hbm, 239, rfl⟩
abbrev main_call11_v5 : Ref sig .tc := ⟨.hbm, 240, rfl⟩
abbrev main_call11_c_1 : Ref sig .tc := ⟨.hbm, 241, rfl⟩
abbrev main_call11_c_2 : Ref sig .tc := ⟨.hbm, 242, rfl⟩
abbrev main_call11_v6 : Ref sig .tc := ⟨.hbm, 243, rfl⟩
abbrev main_call11_v7 : Ref sig .tc := ⟨.hbm, 244, rfl⟩
abbrev main_call11_v8 : Ref sig .tc := ⟨.hbm, 245, rfl⟩
abbrev main_call11_v9 : Ref sig .tc := ⟨.hbm, 246, rfl⟩
abbrev main_call11_v10 : Ref sig .tc := ⟨.hbm, 247, rfl⟩
abbrev main_call11_v11 : Ref sig .tc := ⟨.hbm, 248, rfl⟩
abbrev main_call11_c_3 : Ref sig .tc := ⟨.hbm, 249, rfl⟩
abbrev main_call11_v12 : Ref sig .tc := ⟨.hbm, 250, rfl⟩
abbrev main_call11_v13 : Ref sig .tc := ⟨.hbm, 251, rfl⟩
abbrev main_call11_v14 : Ref sig .tc := ⟨.hbm, 252, rfl⟩
abbrev main_call11_cst : Ref sig .tc := ⟨.hbm, 253, rfl⟩
abbrev main_call11_v15 : Ref sig .tc := ⟨.hbm, 254, rfl⟩
abbrev main_v102 : Ref sig .tc := ⟨.hbm, 255, rfl⟩
abbrev main_v103 : Ref sig .tc := ⟨.hbm, 256, rfl⟩
abbrev main_cst_30 : Ref sig .tc := ⟨.hbm, 257, rfl⟩
abbrev main_v104 : Ref sig .tc := ⟨.hbm, 258, rfl⟩
abbrev main_v105 : Ref sig .tc := ⟨.hbm, 259, rfl⟩
abbrev main_cst_31 : Ref sig .tc := ⟨.hbm, 260, rfl⟩
abbrev main_call12_v0 : Ref sig .tc := ⟨.hbm, 261, rfl⟩
abbrev main_call12_v1 : Ref sig .tc := ⟨.hbm, 262, rfl⟩
abbrev main_v106 : Ref sig .tc := ⟨.hbm, 263, rfl⟩
abbrev main_v107 : Ref sig .tc := ⟨.hbm, 264, rfl⟩
abbrev main_cst_32 : Ref sig .tc := ⟨.hbm, 265, rfl⟩
abbrev main_v108 : Ref sig .tc := ⟨.hbm, 266, rfl⟩
abbrev main_v109 : Ref sig .tc := ⟨.hbm, 267, rfl⟩
abbrev main_cst_33 : Ref sig .tc := ⟨.hbm, 268, rfl⟩
abbrev main_v110 : Ref sig .tc := ⟨.hbm, 269, rfl⟩
abbrev main_v111 : Ref sig .tc := ⟨.hbm, 270, rfl⟩
abbrev main_v112 : Ref sig .tc := ⟨.hbm, 271, rfl⟩
abbrev main_v113 : Ref sig .tc := ⟨.hbm, 272, rfl⟩
abbrev main_c_34 : Ref sig .tc := ⟨.hbm, 273, rfl⟩
abbrev main_c_35 : Ref sig .tc := ⟨.hbm, 274, rfl⟩
abbrev main_call13_v0 : Ref sig .tc := ⟨.hbm, 275, rfl⟩
abbrev main_call13_v1 : Ref sig .tc := ⟨.hbm, 276, rfl⟩
abbrev main_call13_v2 : Ref sig .tc := ⟨.hbm, 277, rfl⟩
abbrev main_call13_v3 : Ref sig .tc := ⟨.hbm, 278, rfl⟩
abbrev main_call13_v4 : Ref sig .tc := ⟨.hbm, 279, rfl⟩
abbrev main_v114 : Ref sig .tc := ⟨.hbm, 280, rfl⟩
abbrev main_v115 : Ref sig .tc := ⟨.hbm, 281, rfl⟩
abbrev main_v116 : Ref sig .tc := ⟨.hbm, 282, rfl⟩
abbrev main_call14_c : Ref sig .tc := ⟨.hbm, 283, rfl⟩
abbrev main_call14_v0 : Ref sig .tc := ⟨.hbm, 284, rfl⟩
abbrev main_call14_v1 : Ref sig .tc := ⟨.hbm, 285, rfl⟩
abbrev main_call14_c_0 : Ref sig .tc := ⟨.hbm, 286, rfl⟩
abbrev main_call14_v2 : Ref sig .tc := ⟨.hbm, 287, rfl⟩
abbrev main_call14_v3 : Ref sig .tc := ⟨.hbm, 288, rfl⟩
abbrev main_call14_v4 : Ref sig .tc := ⟨.hbm, 289, rfl⟩
abbrev main_call14_v5 : Ref sig .tc := ⟨.hbm, 290, rfl⟩
abbrev main_call14_c_1 : Ref sig .tc := ⟨.hbm, 291, rfl⟩
abbrev main_call14_c_2 : Ref sig .tc := ⟨.hbm, 292, rfl⟩
abbrev main_call14_v6 : Ref sig .tc := ⟨.hbm, 293, rfl⟩
abbrev main_call14_v7 : Ref sig .tc := ⟨.hbm, 294, rfl⟩
abbrev main_call14_v8 : Ref sig .tc := ⟨.hbm, 295, rfl⟩
abbrev main_call14_v9 : Ref sig .tc := ⟨.hbm, 296, rfl⟩
abbrev main_call14_v10 : Ref sig .tc := ⟨.hbm, 297, rfl⟩
abbrev main_call14_v11 : Ref sig .tc := ⟨.hbm, 298, rfl⟩
abbrev main_call14_c_3 : Ref sig .tc := ⟨.hbm, 299, rfl⟩
abbrev main_call14_v12 : Ref sig .tc := ⟨.hbm, 300, rfl⟩
abbrev main_call14_v13 : Ref sig .tc := ⟨.hbm, 301, rfl⟩
abbrev main_call14_v14 : Ref sig .tc := ⟨.hbm, 302, rfl⟩
abbrev main_call14_cst : Ref sig .tc := ⟨.hbm, 303, rfl⟩
abbrev main_call14_v15 : Ref sig .tc := ⟨.hbm, 304, rfl⟩
abbrev main_v117 : Ref sig .tc := ⟨.hbm, 305, rfl⟩
abbrev main_v118 : Ref sig .tc := ⟨.hbm, 306, rfl⟩
abbrev main_cst_36 : Ref sig .tc := ⟨.hbm, 307, rfl⟩
abbrev main_v119 : Ref sig .tc := ⟨.hbm, 308, rfl⟩
abbrev main_v120 : Ref sig .tc := ⟨.hbm, 309, rfl⟩
abbrev main_cst_37 : Ref sig .tc := ⟨.hbm, 310, rfl⟩
abbrev main_call15_v0 : Ref sig .tc := ⟨.hbm, 311, rfl⟩
abbrev main_call15_v1 : Ref sig .tc := ⟨.hbm, 312, rfl⟩
abbrev main_v121 : Ref sig .tc := ⟨.hbm, 313, rfl⟩
abbrev main_v122 : Ref sig .tc := ⟨.hbm, 314, rfl⟩
abbrev main_cst_38 : Ref sig .tc := ⟨.hbm, 315, rfl⟩
abbrev main_v123 : Ref sig .tc := ⟨.hbm, 316, rfl⟩
abbrev main_v124 : Ref sig .tc := ⟨.hbm, 317, rfl⟩
abbrev main_cst_39 : Ref sig .tc := ⟨.hbm, 318, rfl⟩
abbrev main_v125 : Ref sig .tc := ⟨.hbm, 319, rfl⟩
abbrev main_v126 : Ref sig .tc := ⟨.hbm, 320, rfl⟩
abbrev main_v127 : Ref sig .tc := ⟨.hbm, 321, rfl⟩
abbrev main_v128 : Ref sig .tc := ⟨.hbm, 322, rfl⟩
abbrev main_c_40 : Ref sig .tc := ⟨.hbm, 323, rfl⟩
abbrev main_c_41 : Ref sig .tc := ⟨.hbm, 324, rfl⟩
abbrev main_call16_v0 : Ref sig .tc := ⟨.hbm, 325, rfl⟩
abbrev main_call16_v1 : Ref sig .tc := ⟨.hbm, 326, rfl⟩
abbrev main_call16_v2 : Ref sig .tc := ⟨.hbm, 327, rfl⟩
abbrev main_call16_v3 : Ref sig .tc := ⟨.hbm, 328, rfl⟩
abbrev main_call16_v4 : Ref sig .tc := ⟨.hbm, 329, rfl⟩
abbrev main_v129 : Ref sig .tc := ⟨.hbm, 330, rfl⟩
abbrev main_v130 : Ref sig .tc := ⟨.hbm, 331, rfl⟩
abbrev main_v131 : Ref sig .tc := ⟨.hbm, 332, rfl⟩
abbrev main_call17_c : Ref sig .tc := ⟨.hbm, 333, rfl⟩
abbrev main_call17_v0 : Ref sig .tc := ⟨.hbm, 334, rfl⟩
abbrev main_call17_v1 : Ref sig .tc := ⟨.hbm, 335, rfl⟩
abbrev main_call17_c_0 : Ref sig .tc := ⟨.hbm, 336, rfl⟩
abbrev main_call17_v2 : Ref sig .tc := ⟨.hbm, 337, rfl⟩
abbrev main_call17_v3 : Ref sig .tc := ⟨.hbm, 338, rfl⟩
abbrev main_call17_v4 : Ref sig .tc := ⟨.hbm, 339, rfl⟩
abbrev main_call17_v5 : Ref sig .tc := ⟨.hbm, 340, rfl⟩
abbrev main_call17_c_1 : Ref sig .tc := ⟨.hbm, 341, rfl⟩
abbrev main_call17_c_2 : Ref sig .tc := ⟨.hbm, 342, rfl⟩
abbrev main_call17_v6 : Ref sig .tc := ⟨.hbm, 343, rfl⟩
abbrev main_call17_v7 : Ref sig .tc := ⟨.hbm, 344, rfl⟩
abbrev main_call17_v8 : Ref sig .tc := ⟨.hbm, 345, rfl⟩
abbrev main_call17_v9 : Ref sig .tc := ⟨.hbm, 346, rfl⟩
abbrev main_call17_v10 : Ref sig .tc := ⟨.hbm, 347, rfl⟩
abbrev main_call17_v11 : Ref sig .tc := ⟨.hbm, 348, rfl⟩
abbrev main_call17_c_3 : Ref sig .tc := ⟨.hbm, 349, rfl⟩
abbrev main_call17_v12 : Ref sig .tc := ⟨.hbm, 350, rfl⟩
abbrev main_call17_v13 : Ref sig .tc := ⟨.hbm, 351, rfl⟩
abbrev main_call17_v14 : Ref sig .tc := ⟨.hbm, 352, rfl⟩
abbrev main_call17_cst : Ref sig .tc := ⟨.hbm, 353, rfl⟩
abbrev main_call17_v15 : Ref sig .tc := ⟨.hbm, 354, rfl⟩
abbrev main_v132 : Ref sig .tc := ⟨.hbm, 355, rfl⟩
abbrev main_v133 : Ref sig .tc := ⟨.hbm, 356, rfl⟩
abbrev main_cst_42 : Ref sig .tc := ⟨.hbm, 357, rfl⟩
abbrev main_v134 : Ref sig .tc := ⟨.hbm, 358, rfl⟩
abbrev main_v135 : Ref sig .tc := ⟨.hbm, 359, rfl⟩
abbrev main_cst_43 : Ref sig .tc := ⟨.hbm, 360, rfl⟩
abbrev main_call18_v0 : Ref sig .tc := ⟨.hbm, 361, rfl⟩
abbrev main_call18_v1 : Ref sig .tc := ⟨.hbm, 362, rfl⟩
abbrev main_v136 : Ref sig .tc := ⟨.hbm, 363, rfl⟩
abbrev main_v137 : Ref sig .tc := ⟨.hbm, 364, rfl⟩
abbrev main_cst_44 : Ref sig .tc := ⟨.hbm, 365, rfl⟩
abbrev main_v138 : Ref sig .tc := ⟨.hbm, 366, rfl⟩
abbrev main_v139 : Ref sig .tc := ⟨.hbm, 367, rfl⟩
abbrev main_cst_45 : Ref sig .tc := ⟨.hbm, 368, rfl⟩
abbrev main_v140 : Ref sig .tc := ⟨.hbm, 369, rfl⟩
abbrev main_v141 : Ref sig .tc := ⟨.hbm, 370, rfl⟩
abbrev main_v142 : Ref sig .tc := ⟨.hbm, 371, rfl⟩
abbrev main_v143 : Ref sig .tc := ⟨.hbm, 372, rfl⟩
abbrev main_c_46 : Ref sig .tc := ⟨.hbm, 373, rfl⟩
abbrev main_c_47 : Ref sig .tc := ⟨.hbm, 374, rfl⟩
abbrev main_call19_v0 : Ref sig .tc := ⟨.hbm, 375, rfl⟩
abbrev main_call19_v1 : Ref sig .tc := ⟨.hbm, 376, rfl⟩
abbrev main_call19_v2 : Ref sig .tc := ⟨.hbm, 377, rfl⟩
abbrev main_call19_v3 : Ref sig .tc := ⟨.hbm, 378, rfl⟩
abbrev main_call19_v4 : Ref sig .tc := ⟨.hbm, 379, rfl⟩
abbrev main_v144 : Ref sig .tc := ⟨.hbm, 380, rfl⟩
abbrev main_v145 : Ref sig .tc := ⟨.hbm, 381, rfl⟩
abbrev main_v146 : Ref sig .tc := ⟨.hbm, 382, rfl⟩
abbrev main_call20_c : Ref sig .tc := ⟨.hbm, 383, rfl⟩
abbrev main_call20_v0 : Ref sig .tc := ⟨.hbm, 384, rfl⟩
abbrev main_call20_v1 : Ref sig .tc := ⟨.hbm, 385, rfl⟩
abbrev main_call20_c_0 : Ref sig .tc := ⟨.hbm, 386, rfl⟩
abbrev main_call20_v2 : Ref sig .tc := ⟨.hbm, 387, rfl⟩
abbrev main_call20_v3 : Ref sig .tc := ⟨.hbm, 388, rfl⟩
abbrev main_call20_v4 : Ref sig .tc := ⟨.hbm, 389, rfl⟩
abbrev main_call20_v5 : Ref sig .tc := ⟨.hbm, 390, rfl⟩
abbrev main_call20_c_1 : Ref sig .tc := ⟨.hbm, 391, rfl⟩
abbrev main_call20_c_2 : Ref sig .tc := ⟨.hbm, 392, rfl⟩
abbrev main_call20_v6 : Ref sig .tc := ⟨.hbm, 393, rfl⟩
abbrev main_call20_v7 : Ref sig .tc := ⟨.hbm, 394, rfl⟩
abbrev main_call20_v8 : Ref sig .tc := ⟨.hbm, 395, rfl⟩
abbrev main_call20_v9 : Ref sig .tc := ⟨.hbm, 396, rfl⟩
abbrev main_call20_v10 : Ref sig .tc := ⟨.hbm, 397, rfl⟩
abbrev main_call20_v11 : Ref sig .tc := ⟨.hbm, 398, rfl⟩
abbrev main_call20_c_3 : Ref sig .tc := ⟨.hbm, 399, rfl⟩
abbrev main_call20_v12 : Ref sig .tc := ⟨.hbm, 400, rfl⟩
abbrev main_call20_v13 : Ref sig .tc := ⟨.hbm, 401, rfl⟩
abbrev main_call20_v14 : Ref sig .tc := ⟨.hbm, 402, rfl⟩
abbrev main_call20_cst : Ref sig .tc := ⟨.hbm, 403, rfl⟩
abbrev main_call20_v15 : Ref sig .tc := ⟨.hbm, 404, rfl⟩
abbrev main_v147 : Ref sig .tc := ⟨.hbm, 405, rfl⟩
abbrev main_v148 : Ref sig .tc := ⟨.hbm, 406, rfl⟩
abbrev main_v149 : Ref sig .tc := ⟨.hbm, 407, rfl⟩

abbrev nD : Nat := 1
abbrev τ : Topo := Topo.v7x

variable {F : FTy → Type} [FloatOps F]
-- ==== Proof.Constants.lean ====
module

public import Idealize.ShloMosaic.PureOps.Ideal.Laws
public import Mathlib.Tactic.NormNum

/- The real numbers the two programs' constants stand for. -/

@[expose] public section

noncomputable section

namespace Cert.Tokens

open Idealize.ShloMosaic

/-- The small constant both programs add to a standard deviation, the number nearest to 1e-5 that the format holds. -/
def eps : ℝ := 10995116 / 1099511627776

/-- The epsilon is positive. -/
theorem eps_pos : 0 < eps := by norm_num [eps]

/-- The epsilon's word is the real `eps`. -/
theorem ofBits_eps : Ideal.ofBits .f32 0x3727C5AC#32 = (eps : EReal) := by
  simp [Ideal.ofBits, Ideal.ieee, -EReal.coe_mul]; norm_num [eps]

/-- This word is 1/512 exactly. -/
theorem ofBits_inv512 : Ideal.ofBits .f32 0x3B000000#32 = ((1 / 512 : ℝ) : EReal) := by
  simp [Ideal.ofBits, Ideal.ieee, -EReal.coe_mul]; norm_num

/-- This word is 512. -/
theorem ofBits_512 : Ideal.ofBits .f32 0x44000000#32 = ((512 : ℝ) : EReal) := by
  simp [Ideal.ofBits, Ideal.ieee, -EReal.coe_mul]; norm_num

/-- This word is 10000. -/
theorem ofBits_10000 : Ideal.ofBits .f32 0x461C4000#32 = ((10000 : ℝ) : EReal) := by
  simp [Ideal.ofBits, Ideal.ieee, -EReal.coe_mul]; norm_num

/-- This word is 1000. -/
theorem ofBits_1000 : Ideal.ofBits .f32 0x447A0000#32 = ((1000 : ℝ) : EReal) := by
  simp [Ideal.ofBits, Ideal.ieee, -EReal.coe_mul]; norm_num

/-- This word is 100. -/
theorem ofBits_100 : Ideal.ofBits .f32 0x42C80000#32 = ((100 : ℝ) : EReal) := by
  simp [Ideal.ofBits, Ideal.ieee, -EReal.coe_mul]; norm_num

/-- This word is 10. -/
theorem ofBits_10 : Ideal.ofBits .f32 0x41200000#32 = ((10 : ℝ) : EReal) := by
  simp [Ideal.ofBits, Ideal.ieee, -EReal.coe_mul]; norm_num

/-- This word is 1. -/
theorem ofBits_1 : Ideal.ofBits .f32 0x3F800000#32 = ((1 : ℝ) : EReal) := by
  simp [Ideal.ofBits, Ideal.ieee, -EReal.coe_mul, -EReal.coe_one]; norm_num

/-- This word is 0. -/
theorem ofBits_0 : Ideal.ofBits .f32 0x00000000#32 = 0 := by
  simp [Ideal.ofBits, Ideal.ieee]

end Cert.Tokens

end
-- ==== Proof.KernelEntry.lean ====
module

public import proofs.«01_k».proof.Proof.Gen.KernelIdeal.Value
public import proofs.«01_k».proof.Proof.Constants
public import Idealize.ShloMosaic.Lib.StableHlo.Run
public import Idealize.ShloMosaic.Lib.Pointwise

/- What the kernel's windows hold, in terms of the arguments: the host lays the arrays out, and each grid point is handed its
   block of 32 series. -/

@[expose] public section

set_option maxRecDepth 16384

noncomputable section

namespace Cert.Tokens

open Cert.KernelIdeal Cert.KernelIdeal.Gen Idealize.ShloMosaic Idealize.ShloMosaic.TcCoe Idealize.SL.Sem

variable (m : (ℓ : Loc nD τ sig) → Buf (Elt Ideal) ℓ) (c : Dev nD)

/-- The five arguments. -/
abbrev argX : FVec Ideal S1024x32x512 .f32 := m ((c : Thread nD τ).loc main_arg0)
abbrev argT : FVec Ideal S1024x64 .f32 := m ((c : Thread nD τ).loc main_arg1)
abbrev argW : FVec Ideal S768x512 .f32 := m ((c : Thread nD τ).loc main_arg2)
abbrev argB : FVec Ideal S768 .f32 := m ((c : Thread nD τ).loc main_arg3)
abbrev argE : FVec Ideal S7x10x768 .f32 := m ((c : Thread nD τ).loc main_arg4)

/-! ## The arrays the host lays out -/

/-- The series, transposed and cut into half-patches. -/
theorem entry_series : (V m c main_call0_v1 : FVec Ideal S1024x64x256 .f32)
    = shapeCast S1024x64x256 (transpose S1024x512x32 [0, 2, 1] (argX m c) transposes_S1024x32x512_S1024x512x32_0_2_1)
        shapeCasts_S1024x512x32_S1024x64x256 := by
  show StableHlo.after hostOps0 _ (Proc.devRef .tc main_call0_v1) = _
  after_results
  rfl

/-- The weights of a patch's first half. -/
theorem entry_first : (V m c main_call0_v5 : FVec Ideal S256x768 .f32)
    = shapeCast S256x768 (transpose S8x32x768 [2, 1, 0] (extractStridedSlice S768x32x8 ![0, 0, 0]
        (shapeCast S768x32x16 (argW m c) shapeCasts_S768x512_S768x32x16) slices_S768x32x16_S768x32x8_0_0_0)
        transposes_S768x32x8_S8x32x768_2_1_0) shapeCasts_S8x32x768_S256x768 := by
  show StableHlo.after hostOps0 _ (Proc.devRef .tc main_call0_v5) = _
  after_results
  rfl

/-- The weights of a patch's second half. -/
theorem entry_second : (V m c main_call0_v8 : FVec Ideal S256x768 .f32)
    = shapeCast S256x768 (transpose S8x32x768 [2, 1, 0] (extractStridedSlice S768x32x8 ![0, 0, 8]
        (shapeCast S768x32x16 (argW m c) shapeCasts_S768x512_S768x32x16) slices_S768x32x16_S768x32x8_0_0_8)
        transposes_S768x32x8_S8x32x768_2_1_0) shapeCasts_S8x32x768_S256x768 := by
  show StableHlo.after hostOps0 _ (Proc.devRef .tc main_call0_v8) = _
  after_results
  rfl

/-- The bias, as one row. -/
theorem entry_bias : (V m c main_call0_v12 : FVec Ideal S1x768 .f32)
    = shapeCast S1x768 (argB m c) shapeCasts_S768_S1x768 := by
  show StableHlo.after hostOps0 _ (Proc.devRef .tc main_call0_v12) = _
  after_results
  rfl

/-- The first table, padded to 16 rows. -/
theorem entry_table : (V m c main_call0_v11 : FVec Ideal S16x768 .f32)
    = pad S16x768 ![0, 0] ![6, 0] ![0, 0] (shapeCast S10x768 (extractStridedSlice S1x10x768 ![0, 0, 0] (argE m c)
        slices_S7x10x768_S1x10x768_0_0_0) shapeCasts_S1x10x768_S10x768) (sitofp .f32 (constantI S_ 32 0#32))
        pads_S10x768_S16x768_060_000 h_S_ := by
  show StableHlo.after hostOps0 _ (Proc.devRef .tc main_call0_v11) = _
  after_results
  rfl

/-- The table the kernel is handed: the first of the seven, in 16 rows of which it reads 10. -/
theorem entry_table_apply (k : Fin 10) (d : Fin 768) :
    (V m c main_call0_v11 : FVec Ideal S16x768 .f32) (ix2 ⟨k.val, by omega⟩ d) = argE m c (ix3 0 k d) := by
  rw [entry_table]
  pointwise

/-! ## Their entries -/

/-- The patches' transposed windows: entry `k` of row `p` is channel `k % 32` at sample `8p + k/32`. -/
theorem entry_series_apply (b : Fin 1024) (p : Fin 64) (k : Fin 256) :
    (V m c main_call0_v1 : FVec Ideal S1024x64x256 .f32) (ix3 b p k)
      = argX m c (ix3 b ⟨k.val % 32, by omega⟩ ⟨p.val * 8 + k.val / 32, by omega⟩) := by
  rw [entry_series]
  pointwise

/-- Row `k` of the first half's weights is channel `k % 32`, position `k / 32`. -/
theorem entry_first_apply (k : Fin 256) (d : Fin 768) :
    (V m c main_call0_v5 : FVec Ideal S256x768 .f32) (ix2 k d)
      = argW m c (ix2 d ⟨k.val % 32 * 16 + k.val / 32, by omega⟩) := by
  rw [entry_first]
  pointwise

/-- Row `k` of the second half's weights is channel `k % 32`, position `k / 32 + 8`. -/
theorem entry_second_apply (k : Fin 256) (d : Fin 768) :
    (V m c main_call0_v8 : FVec Ideal S256x768 .f32) (ix2 k d)
      = argW m c (ix2 d ⟨k.val % 32 * 16 + (k.val / 32 + 8), by omega⟩) := by
  rw [entry_second]
  pointwise
  exact congrArg (fun n => argW m c (ix2 d n)) (Fin.ext (by show _ + (8 + _) = _ + (_ + 8); omega))

/-- The bias row's entries are the bias. -/
theorem entry_bias_apply (d : Fin 768) : (V m c main_call0_v12 : FVec Ideal S1x768 .f32) (ix2 0 d) = argB m c (ix1 d) := by
  rw [entry_bias]
  pointwise

end Cert.Tokens

end
-- ==== Proof.Standardize.lean ====
module

public import Idealize.ShloMosaic.PureOps.Ideal
public import Idealize.ShloMosaic.PureOps.Ideal.Laws

/- Standardising a row of 512 extended reals, in the two ways the two programs write it: through the mean of the squares
   and a reciprocal, or through the mean squared deviation and a division. They agree on every row, the rows that hold
   an infinite entry included: there both are 0. -/

@[expose] public section

noncomputable section

namespace Cert.Tokens

open Idealize.ShloMosaic

/-- The mean of a row, as its sum times 1/512. -/
def rowMean (r : Fin 512 → EReal) : EReal := (∑ i, r i) * ((1 / 512 : ℝ) : EReal)

/-- An entry standardised by the reciprocal of (√(mean square − squared mean) + ε). -/
def standBySquares (ε : ℝ) (r : Fin 512 → EReal) (s : Fin 512) : EReal :=
  (r s - rowMean r) *
    Ideal.div 1 (Ideal.sqrt ((∑ i, r i * r i) * ((1 / 512 : ℝ) : EReal) - rowMean r * rowMean r) + (ε : EReal))

/-- An entry standardised by a division by (√(mean squared deviation) + ε). -/
def standByDeviations (ε : ℝ) (r : Fin 512 → EReal) (s : Fin 512) : EReal :=
  Ideal.div (r s - Ideal.div (∑ i, r i) ((512 : ℝ) : EReal))
    (Ideal.sqrt (Ideal.div (∑ i, (r i - Ideal.div (∑ i, r i) ((512 : ℝ) : EReal)) *
      (r i - Ideal.div (∑ i, r i) ((512 : ℝ) : EReal))) ((512 : ℝ) : EReal)) + (ε : EReal))

/-- The sum of a finite family of reals, taken in the extended reals, is the real sum. -/
theorem coe_sum_real {ι : Type*} (t : Finset ι) (a : ι → ℝ) : ∑ i ∈ t, (a i : EReal) = ((∑ i ∈ t, a i : ℝ) : EReal) := by
  induction t using Finset.cons_induction with
  | empty => simp
  | cons i t hi ih => rw [Finset.sum_cons, Finset.sum_cons, ih, EReal.coe_add]

/-- A finite sum of extended reals with an infinite term is infinite. -/
theorem sum_infinite {ι : Type*} [Fintype ι] (r : ι → EReal) (h : ∃ i, r i = ⊤ ∨ r i = ⊥) :
    ∑ i, r i = ⊤ ∨ ∑ i, r i = ⊥ := by
  classical
  by_cases hb : ∃ i, r i = ⊥
  · obtain ⟨i, hi⟩ := hb
    right
    rw [← Finset.add_sum_erase _ _ (Finset.mem_univ i), hi, EReal.bot_add]
  · left
    push Not at hb
    obtain ⟨i, hi⟩ := h
    have hi : r i = ⊤ := hi.resolve_right (hb i)
    have hrest : ∀ t : Finset ι, ∑ j ∈ t, r j ≠ ⊥ := by
      intro t
      induction t using Finset.cons_induction with
      | empty => simp
      | cons j t hj ih =>
        rw [Finset.sum_cons]
        simp [EReal.add_eq_bot_iff, hb j, ih]
    rw [← Finset.add_sum_erase _ _ (Finset.mem_univ i), hi, EReal.top_add_of_ne_bot (hrest _)]

/-- A finite sum of nonnegative extended reals with an infinite term is +∞. -/
theorem sum_eq_top {ι : Type*} [Fintype ι] (f : ι → EReal) (h0 : ∀ i, 0 ≤ f i) (h : ∃ i, f i = ⊤) : ∑ i, f i = ⊤ := by
  have hn : (0 : EReal) ≤ ∑ i, f i := Finset.sum_nonneg fun i _ => h0 i
  rcases sum_infinite f (h.imp fun i hi => Or.inl hi) with h' | h'
  · exact h'
  · rw [h'] at hn
    exact absurd hn (by simp)

/-- A square of extended reals is not negative. -/
theorem mul_self_nonneg_ereal (x : EReal) : 0 ≤ x * x := by
  induction x with
  | bot => simp
  | top => simp
  | coe a => exact_mod_cast mul_self_nonneg a

/-- An infinite value's square is +∞. -/
theorem mul_self_infinite {x : EReal} (h : x = ⊤ ∨ x = ⊥) : x * x = ⊤ := by
  rcases h with rfl | rfl <;> simp

/-- Dividing by 512 is multiplying by 1/512. -/
theorem div_512 (x : EReal) : Ideal.div x ((512 : ℝ) : EReal) = x * ((1 / 512 : ℝ) : EReal) :=
  Ideal.div_coe (by norm_num) x

/-- +∞ and −∞ divided by 512 are themselves. -/
theorem top_mul_512 : (⊤ : EReal) * ((1 / 512 : ℝ) : EReal) = ⊤ := EReal.top_mul_coe_of_pos (by norm_num)
theorem bot_mul_512 : (⊥ : EReal) * ((1 / 512 : ℝ) : EReal) = ⊥ := EReal.bot_mul_coe_of_pos (by norm_num)

/-- On a row with an infinite entry, standardising by squares gives 0. -/
theorem standBySquares_infinite (ε : ℝ) (r : Fin 512 → EReal) (h : ∃ i, r i = ⊤ ∨ r i = ⊥) (s : Fin 512) :
    standBySquares ε r s = 0 := by
  have hm : rowMean r = ⊤ ∨ rowMean r = ⊥ := by
    unfold rowMean
    rcases sum_infinite r h with h' | h' <;> rw [h']
    · exact Or.inl top_mul_512
    · exact Or.inr bot_mul_512
  have hq : ∑ i, r i * r i = ⊤ :=
    sum_eq_top _ (fun i => mul_self_nonneg_ereal (r i)) (h.imp fun i hi => mul_self_infinite hi)
  unfold standBySquares
  rw [hq, top_mul_512, mul_self_infinite hm]
  simp [Ideal.div, sub_eq_add_neg]

/-- On a row with an infinite entry, standardising by deviations gives 0. -/
theorem standByDeviations_infinite (ε : ℝ) (r : Fin 512 → EReal) (h : ∃ i, r i = ⊤ ∨ r i = ⊥) (s : Fin 512) :
    standByDeviations ε r s = 0 := by
  have hd : ∀ i, (r i - Ideal.div (∑ i, r i) ((512 : ℝ) : EReal)) * (r i - Ideal.div (∑ i, r i) ((512 : ℝ) : EReal)) = ⊤ := by
    intro i
    apply mul_self_infinite
    rw [div_512]
    rcases sum_infinite r h with h' | h' <;> rw [h']
    · rw [top_mul_512]
      right
      simp [sub_eq_add_neg]
    · rw [bot_mul_512, sub_eq_add_neg, EReal.neg_bot]
      by_cases hb : r i = ⊥
      · right
        rw [hb, EReal.bot_add]
      · left
        rw [EReal.add_top_of_ne_bot hb]
  have hs := sum_eq_top _ (fun i => (hd i).symm ▸ le_top) ⟨(0 : Fin 512), hd 0⟩
  unfold standByDeviations
  rw [hs, div_512, div_512, top_mul_512]
  simp [Ideal.div]

/-- For reals, the mean square less the squared mean is the mean squared deviation. -/
theorem variance_eq (a : Fin 512 → ℝ) (μ : ℝ) (hμ : μ = (∑ i, a i) * (1 / 512)) :
    (∑ i, a i * a i) * (1 / 512) - μ * μ = (∑ i, (a i - μ) * (a i - μ)) * (1 / 512) := by
  have h : ∑ i, (a i - μ) * (a i - μ) = (∑ i, a i * a i) - 2 * μ * (∑ i, a i) + 512 * (μ * μ) := by
    have : ∀ i, (a i - μ) * (a i - μ) = a i * a i - 2 * μ * a i + μ * μ := fun i => by ring
    simp only [this, Finset.sum_add_distrib, Finset.sum_sub_distrib, ← Finset.mul_sum]
    simp only [Finset.sum_const, Finset.card_univ, Fintype.card_fin, nsmul_eq_mul]
    push_cast
    ring
  rw [h]
  have : ∑ i, a i = 512 * μ := by rw [hμ]; ring
  rw [this]
  ring

/-- On a row of reals, the two ways of standardising agree. -/
theorem stand_real (ε : ℝ) (hε : 0 < ε) (a : Fin 512 → ℝ) (s : Fin 512) :
    standBySquares ε (fun i => (a i : EReal)) s = standByDeviations ε (fun i => (a i : EReal)) s := by
  have hv : 0 ≤ (∑ i, (a i - (∑ i, a i) * (1 / 512)) * (a i - (∑ i, a i) * (1 / 512))) * (1 / 512 : ℝ) :=
    mul_nonneg (Finset.sum_nonneg fun i _ => mul_self_nonneg _) (by norm_num)
  have hw : Real.sqrt ((∑ i, (a i - (∑ i, a i) * (1 / 512)) * (a i - (∑ i, a i) * (1 / 512))) * (1 / 512)) + ε ≠ 0 :=
    ne_of_gt (add_pos_of_nonneg_of_pos (Real.sqrt_nonneg _) hε)
  simp only [standBySquares, standByDeviations, rowMean, div_512, coe_sum_real, ← EReal.coe_mul, ← EReal.coe_sub]
  rw [variance_eq a _ rfl, Ideal.sqrt_coe, if_neg (not_lt.mpr hv), ← EReal.coe_add, Ideal.div_coe hw, Ideal.div_coe hw, one_mul]

/-- The two ways of standardising a row agree. -/
theorem stand_eq (ε : ℝ) (hε : 0 < ε) (r : Fin 512 → EReal) (s : Fin 512) :
    standBySquares ε r s = standByDeviations ε r s := by
  by_cases h : ∃ i, r i = ⊤ ∨ r i = ⊥
  · rw [standBySquares_infinite ε r h, standByDeviations_infinite ε r h]
  · push Not at h
    have hr : r = fun i => ((r i).toReal : EReal) := funext fun i => (EReal.coe_toReal (h i).1 (h i).2).symm
    rw [hr]
    exact stand_real ε hε _ s

end Cert.Tokens

end
-- ==== Proof.Regroup.lean ====
module

public import Idealize.ShloMosaic.PureOps.Ideal
public import Idealize.ShloMosaic.PureOps.Ideal.Laws

/- Finite sums regrouped: a sum over 512 or 256 places as a double sum over a quotient and a remainder, and a sum over
   the rows of a table weighted by counts as the sum of the rows counted. -/

@[expose] public section

noncomputable section

namespace Cert.Tokens

open Idealize.ShloMosaic

variable {M : Type*} [AddCommMonoid M]

/-- A sum over `m * n` places is a double sum over the quotient and the remainder by `n`. -/
theorem sum_div_mod (m n N : ℕ) (hN : N = m * n) (f : ℕ → ℕ → M) :
    ∑ k : Fin N, f (k.val / n) (k.val % n) = ∑ a : Fin m, ∑ b : Fin n, f a.val b.val := by
  subst hN
  rw [← Fintype.sum_prod_type' (f := fun (a : Fin m) (b : Fin n) => f a.val b.val)]
  refine (Fintype.sum_equiv finProdFinEquiv.symm _ _ fun k => ?_)
  rfl

/-- 512 places as 32 channels of 16 positions, against twice 256 places as 8 positions of 32 channels: the first 8
    positions of every channel and the last 8. -/
theorem sum_patch (f : ℕ → ℕ → M) :
    ∑ k : Fin 512, f (k.val / 16) (k.val % 16)
      = ∑ k : Fin 256, f (k.val % 32) (k.val / 32) + ∑ k : Fin 256, f (k.val % 32) (k.val / 32 + 8) := by
  rw [sum_div_mod 32 16 512 rfl f, sum_div_mod 8 32 256 rfl fun q c => f c q,
    sum_div_mod 8 32 256 rfl fun q c => f c (q + 8), Finset.sum_comm (s := (Finset.univ : Finset (Fin 8))),
    Finset.sum_comm (s := (Finset.univ : Finset (Fin 8))), ← Finset.sum_add_distrib]
  refine Finset.sum_congr rfl fun c _ => ?_
  rw [show (16 : ℕ) = 8 + 8 from rfl, Fin.sum_univ_add]
  simp [add_comm]

/-- 512 places of a row as 64 patches of 8 places, the eight places added up one after the other. -/
theorem sum_row (g : ℕ → M) :
    ∑ s : Fin 512, g s.val
      = ∑ n : Fin 64, g (n.val * 8) + ∑ n : Fin 64, g (n.val * 8 + 1) + ∑ n : Fin 64, g (n.val * 8 + 2)
        + ∑ n : Fin 64, g (n.val * 8 + 3) + ∑ n : Fin 64, g (n.val * 8 + 4) + ∑ n : Fin 64, g (n.val * 8 + 5)
        + ∑ n : Fin 64, g (n.val * 8 + 6) + ∑ n : Fin 64, g (n.val * 8 + 7) := by
  have h := sum_div_mod 64 8 512 rfl fun n q => g (n * 8 + q)
  have hg : ∀ s : Fin 512, g (s.val / 8 * 8 + s.val % 8) = g s.val := fun s => by rw [Nat.div_add_mod']
  simp only [hg] at h
  rw [h, Finset.sum_comm, Fin.sum_univ_eight]
  rfl

/-! ## Counting rows of a table -/

/-- One at row `k`, nothing elsewhere. -/
def oneAt (k e : ℕ) : EReal := if k = e then 1 else 0

/-- A one-hot entry is not negative. -/
theorem oneAt_nonneg (k e : ℕ) : 0 ≤ oneAt k e := by
  unfold oneAt
  split <;> simp

/-- Counting one more row `k` adds the table's row `k` to the weighted sum. -/
theorem sum_count_step (A T : Fin 16 → EReal) (hA : ∀ e, 0 ≤ A e) (k : Fin 16) :
    ∑ e, (A e + oneAt k.val e.val) * T e = ∑ e, A e * T e + T k := by
  have h : ∀ e, (A e + oneAt k.val e.val) * T e = A e * T e + oneAt k.val e.val * T e :=
    fun e => EReal.right_distrib_of_nonneg (hA e) (oneAt_nonneg _ _)
  simp only [h, Finset.sum_add_distrib]
  congr 1
  rw [Finset.sum_eq_single k]
  · simp [oneAt]
  · intro e _ he
    have : k.val ≠ e.val := fun h => he (Fin.ext h.symm)
    simp [oneAt, this]
  · simp

/-- The table weighted by how often each of seven rows occurs is the sum of the seven rows. -/
theorem sum_counts (T : Fin 16 → EReal) (k : Fin 7 → Fin 16) :
    ∑ e : Fin 16, (oneAt (k 0).val e.val + oneAt (k 1).val e.val + oneAt (k 2).val e.val + oneAt (k 3).val e.val
        + oneAt (k 4).val e.val + oneAt (k 5).val e.val + oneAt (k 6).val e.val) * T e
      = T (k 0) + T (k 1) + T (k 2) + T (k 3) + T (k 4) + T (k 5) + T (k 6) := by
  have h0 := sum_count_step (fun _ => 0) T (fun _ => le_rfl) (k 0)
  simp only [zero_add, zero_mul, Finset.sum_const_zero] at h0
  have n1 := fun e : Fin 16 => oneAt_nonneg (k 0).val e.val
  have n2 := fun e : Fin 16 => add_nonneg (n1 e) (oneAt_nonneg (k 1).val e.val)
  have n3 := fun e : Fin 16 => add_nonneg (n2 e) (oneAt_nonneg (k 2).val e.val)
  have n4 := fun e : Fin 16 => add_nonneg (n3 e) (oneAt_nonneg (k 3).val e.val)
  have n5 := fun e : Fin 16 => add_nonneg (n4 e) (oneAt_nonneg (k 4).val e.val)
  have n6 := fun e : Fin 16 => add_nonneg (n5 e) (oneAt_nonneg (k 5).val e.val)
  rw [sum_count_step _ T n6, sum_count_step _ T n5, sum_count_step _ T n4, sum_count_step _ T n3, sum_count_step _ T n2,
    sum_count_step _ T n1, h0]

/-- The widened bit of "this word is the word of `e`", read as a number, is `oneAt`. -/
theorem bit_eq_oneAt (k e : ℕ) (hk : k < 16) (he : e < 16) :
    (((BitVec.setWidth 32 (IntOp.cmpi .eq (BitVec.ofNat 32 k) (BitVec.ofNat 32 e))).toInt : ℝ) : EReal) = oneAt k e := by
  unfold oneAt IntOp.cmpi
  by_cases h : k = e
  · subst h
    simp
  · have hne : BitVec.ofNat 32 k ≠ BitVec.ofNat 32 e := by
      intro hh
      have := congrArg BitVec.toNat hh
      simp only [BitVec.toNat_ofNat] at this
      omega
    have hb : (BitVec.ofNat 32 k == BitVec.ofNat 32 e) = false := by simpa using hne
    simp [h, hb]

end Cert.Tokens

end
-- ==== Proof.KernelTokens.lean ====
module

public import proofs.«01_k».proof.Proof.Gen.KernelIdeal.Skeleton
public import proofs.«01_k».proof.Proof.Standardize
public import proofs.«01_k».proof.Proof.Regroup
public import proofs.«01_k».proof.Proof.Constants
public import Idealize.ShloMosaic.Lib.Pointwise
public import Idealize.ShloMosaic.Lib.Pipeline.Value

/- The kernel's patch projection on one block of 32 series, read at an index. -/

@[expose] public section

set_option maxRecDepth 16384

noncomputable section

namespace Cert.Tokens

open Cert.KernelIdeal Cert.KernelIdeal.Gen Idealize.ShloMosaic

/-- A per-channel value repeated for the 8 positions of a patch. -/
def spread (y : FVec Ideal S32x32 .f32) : FVec Ideal S32x256 .f32 :=
  concatenate S32x256 1 [⟨S32x32, y⟩, ⟨S32x32, y⟩, ⟨S32x32, y⟩, ⟨S32x32, y⟩, ⟨S32x32, y⟩, ⟨S32x32, y⟩, ⟨S32x32, y⟩, ⟨S32x32, y⟩]
    concatenates_S32x32_S32x32_S32x32_S32x32_S32x32_S32x32_S32x32_S32x32_S32x256_d1

/-- The same for the rows of all series. -/
def spreadRows (y : FVec Ideal S2048x32 .f32) : FVec Ideal S2048x256 .f32 :=
  concatenate S2048x256 1 [⟨S2048x32, y⟩, ⟨S2048x32, y⟩, ⟨S2048x32, y⟩, ⟨S2048x32, y⟩, ⟨S2048x32, y⟩, ⟨S2048x32, y⟩, ⟨S2048x32, y⟩,
    ⟨S2048x32, y⟩] concatenates_S2048x32_S2048x32_S2048x32_S2048x32_S2048x32_S2048x32_S2048x32_S2048x32_S2048x256_d1

/-- The repeated value at position `k` is channel `k % 32`'s. -/
theorem spread_apply (y : FVec Ideal S32x32 .f32) (b : Fin 32) (k : Fin 256) :
    spread y (ix2 b k) = y (ix2 b ⟨k.val % 32, by omega⟩) := by
  refine concatenate_ofFn_apply (t := S32x256) (s₁ := S32x32) 1 (fun _ : Fin 8 => y)
    concatenates_S32x32_S32x32_S32x32_S32x32_S32x32_S32x32_S32x32_S32x32_S32x256_d1 rfl 32 (by rfl) (ix2 b k)
    ⟨k.val / 32, by omega⟩ rfl (ix2 b ⟨k.val % 32, by omega⟩) rfl ?_
  intro a ha
  match a with
  | ⟨0, _⟩ => rfl
  | ⟨1, _⟩ => exact absurd rfl ha

/-- The same for the rows of all series. -/
theorem spreadRows_apply (y : FVec Ideal S2048x32 .f32) (r : Fin 2048) (k : Fin 256) :
    spreadRows y (ix2 r k) = y (ix2 r ⟨k.val % 32, by omega⟩) := by
  refine concatenate_ofFn_apply (t := S2048x256) (s₁ := S2048x32) 1 (fun _ : Fin 8 => y)
    concatenates_S2048x32_S2048x32_S2048x32_S2048x32_S2048x32_S2048x32_S2048x32_S2048x32_S2048x256_d1 rfl 32 (by rfl) (ix2 r k)
    ⟨k.val / 32, by omega⟩ rfl (ix2 r ⟨k.val % 32, by omega⟩) rfl ?_
  intro a ha
  match a with
  | ⟨0, _⟩ => rfl
  | ⟨1, _⟩ => exact absurd rfl ha

/-- The standardised patches, one row per (series, patch): less the mean, times the reciprocal of the deviation. -/
def patches (v : FVec Ideal S32x64x256 .f32) (mean dev : FVec Ideal S32x32 .f32) (one : Ideal .f32) : FVec Ideal S2048x256 .f32 :=
  shapeCast S2048x256 (mulf
    (subf v (broadcastTo S32x64x256 (shapeCast S32x1x256 (spread mean) shapeCasts_S32x256_S32x1x256) broadcasts_S32x1x256_S32x64x256))
    (broadcastTo S32x64x256 (shapeCast S32x1x256 (spread (divf (broadcast S32x32 one) dev)) shapeCasts_S32x256_S32x1x256)
      broadcasts_S32x1x256_S32x64x256)) shapeCasts_S32x64x256_S2048x256

/-- A standardized half-patch at an index. -/
theorem patches_apply (v : FVec Ideal S32x64x256 .f32) (mean dev : FVec Ideal S32x32 .f32) (one : Ideal .f32) (r : Fin 2048)
    (k : Fin 256) : patches v mean dev one (ix2 r k)
      = (v (ix3 ⟨r.val / 64, by omega⟩ ⟨r.val % 64, by omega⟩ k) - mean (ix2 ⟨r.val / 64, by omega⟩ ⟨k.val % 32, by omega⟩))
        * Ideal.div one (dev (ix2 ⟨r.val / 64, by omega⟩ ⟨k.val % 32, by omega⟩)) := by
  pointwise [patches]
  simp only [spread_apply]
  pointwise

/-- Whether a row is the last patch of its series. -/
def isLast : IVec S2048x256 1 :=
  have v62 : IVec S2048x256 32 := iota .tc S2048x256 32 [0] iota_S2048x256_d0_w32
  let v63 : BitVec 1 := Scalar.cmpi .eq 64#32 0#32
  let v64 : BitVec 32 := Scalar.select v63 1#32 64#32
  have v66 : IVec S2048x256 32 := remsi v62 (broadcast S2048x256 v64)
  have v75 : IVec S2048x256 1 := andi (xori (cmpi .slt v66 (broadcast S2048x256 0#32))
    (broadcastTo S2048x256 (broadcast S2048x256 (Scalar.cmpi .slt v64 0#32)) broadcasts_S2048x256_S2048x256))
    (cmpi .ne v66 (broadcast S2048x256 0#32))
  cmpi .eq (select v75 (addi v66 (broadcast S2048x256 v64)) v66) (broadcast S2048x256 63#32)

/-- The marked rows are each series' last, row 63 of 64. -/
theorem isLast_apply (r : Fin 2048) (k : Fin 256) : isLast (ix2 r k) = if r.val % 64 = 63 then 1#1 else 0#1 := by
  pointwise [isLast]
  revert r
  decide +kernel

/-- The rows one patch further on; after the last patch of a series, its last position over and over. -/
def following (v : FVec Ideal S2048x256 .f32) : FVec Ideal S2048x256 .f32 :=
  select isLast (spreadRows (extractStridedSlice S2048x32 ![0, 224] v slices_S2048x256_o0_224_S2048x32))
    (dynamicRotate 0 2047#32 none v rotates_S2048x256_d0)

/-- The second half of a patch: the next row, or in a series' last row its last sample repeated. -/
theorem following_apply (v : FVec Ideal S2048x256 .f32) (r : Fin 2048) (k : Fin 256) : following v (ix2 r k)
    = if h : r.val % 64 = 63 then v (ix2 r ⟨224 + k.val % 32, by omega⟩) else v (ix2 ⟨r.val + 1, by omega⟩ k) := by
  pointwise [following]
  rw [isLast_apply, spreadRows_apply]
  by_cases h : r.val % 64 = 63
  · rw [if_pos h, dif_pos h]
    pointwise
  · rw [if_neg h, dif_neg h]
    pointwise
    exact congrArg (fun i => v (ix2 i k)) (Fin.ext (by show (r.val + 2048 - 2047) % 2048 = r.val + 1; omega))

/-- The projection is the two products of the patches and of the rows following. -/
theorem pay4_eq (v : FVec Ideal S32x64x256 .f32) (mean dev : FVec Ideal S32x32 .f32) (one : Ideal .f32)
    (W1 W2 : FVec Ideal S256x768 .f32) :
    k0_pay4 (F := Ideal) v mean dev one W1 W2 = addf
      (matmul dot_S2048x256_S256x768_S2048x768_1_0_0_1_n_n none (patches v mean dev one)
        (shapeCast S256x768 W1 shapeCasts_S256x768_S256x768) (constant S2048x768 .f32 0x00000000#32))
      (matmul dot_S2048x256_S256x768_S2048x768_1_0_0_1_n_n none (following (patches v mean dev one))
        (shapeCast S256x768 W2 shapeCasts_S256x768_S256x768) (constant S2048x768 .f32 0x00000000#32)) := rfl

/-- The two products, added, at an index: two sums over 256 places. -/
theorem products_apply (P Q : FVec Ideal S2048x256 .f32) (W1 W2 : FVec Ideal S256x768 .f32) (r : Fin 2048) (d : Fin 768) :
    addf
      (matmul dot_S2048x256_S256x768_S2048x768_1_0_0_1_n_n none P
        (shapeCast S256x768 W1 shapeCasts_S256x768_S256x768) (constant S2048x768 .f32 0x00000000#32))
      (matmul dot_S2048x256_S256x768_S2048x768_1_0_0_1_n_n none Q
        (shapeCast S256x768 W2 shapeCasts_S256x768_S256x768) (constant S2048x768 .f32 0x00000000#32)) (ix2 r d)
      = ∑ k : Fin 256, P (ix2 r k) * W1 (ix2 k d) + ∑ k : Fin 256, Q (ix2 r k) * W2 (ix2 k d) := by
  pointwise

end Cert.Tokens

end
-- ==== Proof.KernelSeries.lean ====
module

public import proofs.«01_k».proof.Proof.KernelTokens

/- The kernel's standardised patches on a block of 32 series, in terms of the series. -/

@[expose] public section

set_option maxRecDepth 16384

noncomputable section

namespace Cert.Tokens

open Cert.KernelIdeal Cert.KernelIdeal.Gen Idealize.ShloMosaic

/-- The block `v` holds the series `s`: at patch `p`, place `32 q + c`, position `8 p + q` of channel `c`. -/
def Holds (v : FVec Ideal S32x64x256 .f32) (s : Fin 32 → Fin 32 → Fin 512 → EReal) : Prop :=
  ∀ (b : Fin 32) (p : Fin 64) (k : Fin 256),
    v (ix3 b p k) = s b ⟨k.val % 32, by omega⟩ ⟨p.val * 8 + k.val / 32, by omega⟩

/-- A channel's sum over patches and the 8 positions of each is the sum over its series. -/
theorem sum_positions (f : Fin 64 → Fin 256 → EReal) (g : Fin 512 → EReal) (c : Fin 32)
    (h : ∀ (p : Fin 64) (k : Fin 256), k.val % 32 = c.val → f p k = g ⟨p.val * 8 + k.val / 32, by omega⟩) :
    ∑ p, f p ⟨c.val, by omega⟩ + ∑ p, f p ⟨32 + c.val, by omega⟩ + ∑ p, f p ⟨64 + c.val, by omega⟩
      + ∑ p, f p ⟨96 + c.val, by omega⟩ + ∑ p, f p ⟨128 + c.val, by omega⟩ + ∑ p, f p ⟨160 + c.val, by omega⟩
      + ∑ p, f p ⟨192 + c.val, by omega⟩ + ∑ p, f p ⟨224 + c.val, by omega⟩ = ∑ i, g i := by
  have hg := sum_row fun n => if hn : n < 512 then g ⟨n, hn⟩ else 0
  have hs : ∑ s : Fin 512, (fun n => if hn : n < 512 then g ⟨n, hn⟩ else 0) s.val = ∑ i, g i :=
    Finset.sum_congr rfl fun s _ => dif_pos s.isLt
  rw [hs] at hg
  rw [hg]
  have hq : ∀ (q : ℕ) (hq : q < 8) (k : Fin 256), k.val = 32 * q + c.val → ∑ p, f p k
      = ∑ n : Fin 64, (fun n => if hn : n < 512 then g ⟨n, hn⟩ else 0) (n.val * 8 + q) := by
    intro q hq k hk
    refine Finset.sum_congr rfl fun p _ => ?_
    rw [h p k (by omega)]
    have hn : p.val * 8 + q < 512 := by omega
    show _ = dite _ _ _
    rw [dif_pos hn]
    exact congrArg g (Fin.ext (by show p.val * 8 + k.val / 32 = p.val * 8 + q; omega))
  rw [hq 0 (by omega) ⟨c.val, _⟩ (by simp), hq 1 (by omega) ⟨32 + c.val, _⟩ (by simp), hq 2 (by omega) ⟨64 + c.val, _⟩ (by simp),
    hq 3 (by omega) ⟨96 + c.val, _⟩ (by simp), hq 4 (by omega) ⟨128 + c.val, _⟩ (by simp),
    hq 5 (by omega) ⟨160 + c.val, _⟩ (by simp), hq 6 (by omega) ⟨192 + c.val, _⟩ (by simp),
    hq 7 (by omega) ⟨224 + c.val, _⟩ (by simp)]
  rfl

/-- The block's means are the series' means. -/
theorem mean_apply {v : FVec Ideal S32x64x256 .f32} {s : Fin 32 → Fin 32 → Fin 512 → EReal} (hv : Holds v s) (b c : Fin 32) :
    k0_pay2 (F := Ideal) v (ix2 b c) = rowMean (s b c) := by
  unfold rowMean
  rw [← sum_positions (fun p k => v (ix3 b p k)) (s b c) c
    (fun p k hk => by rw [hv]; exact congrArg (fun c => s b c _) (Fin.ext hk)), ← ofBits_inv512]
  pointwise [k0_pay2, k0_pay1]

/-- The block's deviations: the root of the mean of squares less the squared mean, plus the epsilon. -/
theorem dev_apply {v : FVec Ideal S32x64x256 .f32} {s : Fin 32 → Fin 32 → Fin 512 → EReal} (hv : Holds v s) (b c : Fin 32) :
    k0_pay3 (F := Ideal) v (ix2 b c) = Ideal.sqrt ((∑ i, s b c i * s b c i) * ((1 / 512 : ℝ) : EReal)
      - rowMean (s b c) * rowMean (s b c)) + (eps : EReal) := by
  rw [← mean_apply hv, ← sum_positions (fun p k => v (ix3 b p k) * v (ix3 b p k)) (fun i => s b c i * s b c i) c
    (fun p k hk => by
      rw [hv]
      exact congrArg (fun c => s b c ⟨p.val * 8 + k.val / 32, by omega⟩ * s b c ⟨p.val * 8 + k.val / 32, by omega⟩) (Fin.ext hk)),
    ← ofBits_inv512, ← ofBits_eps]
  pointwise [k0_pay3, k0_pay1]

/-- The block's patches. -/
def blockPatches (v : FVec Ideal S32x64x256 .f32) : FVec Ideal S2048x256 .f32 :=
  patches (k0_pay1 v) (k0_pay2 v) (k0_pay3 v) (Scalar.ofBits .f32 0x3F800000#32)

/-- A patch's values are its series' standardised values. -/
theorem blockPatches_apply {v : FVec Ideal S32x64x256 .f32} {s : Fin 32 → Fin 32 → Fin 512 → EReal} (hv : Holds v s)
    (r : Fin 2048) (k : Fin 256) : blockPatches v (ix2 r k)
      = standBySquares eps (s ⟨r.val / 64, by omega⟩ ⟨k.val % 32, by omega⟩) ⟨r.val % 64 * 8 + k.val / 32, by omega⟩ := by
  have h1 : (Scalar.ofBits .f32 0x3F800000#32 : Ideal .f32) = (1 : EReal) := ofBits_1
  have hp : k0_pay1 (F := Ideal) v (ix3 ⟨r.val / 64, by omega⟩ ⟨r.val % 64, by omega⟩ k)
      = v (ix3 ⟨r.val / 64, by omega⟩ ⟨r.val % 64, by omega⟩ k) := by pointwise [k0_pay1]
  unfold blockPatches
  rw [patches_apply, hp, hv, mean_apply hv, dev_apply hv, h1]
  rfl

/-- The rows following hold the standardised values one patch on, the series held at its last value past its end. -/
theorem blockFollowing_apply {v : FVec Ideal S32x64x256 .f32} {s : Fin 32 → Fin 32 → Fin 512 → EReal} (hv : Holds v s)
    (r : Fin 2048) (k : Fin 256) : following (blockPatches v) (ix2 r k)
      = standBySquares eps (s ⟨r.val / 64, by omega⟩ ⟨k.val % 32, by omega⟩)
          ⟨min (r.val % 64 * 8 + (k.val / 32 + 8)) 511, by omega⟩ := by
  rw [following_apply]
  by_cases h : r.val % 64 = 63
  · rw [dif_pos h, blockPatches_apply hv]
    refine congr (congrArg (fun c => standBySquares eps (s _ c)) (Fin.ext ?_)) (Fin.ext ?_)
    · show (224 + k.val % 32) % 32 = k.val % 32
      omega
    · show r.val % 64 * 8 + (224 + k.val % 32) / 32 = min (r.val % 64 * 8 + (k.val / 32 + 8)) 511
      omega
  · rw [dif_neg h, blockPatches_apply hv]
    refine congr (congrArg (fun b => standBySquares eps (s b _)) (Fin.ext ?_)) (Fin.ext ?_)
    · show (r.val + 1) / 64 = r.val / 64
      omega
    · show (r.val + 1) % 64 * 8 + k.val / 32 = min (r.val % 64 * 8 + (k.val / 32 + 8)) 511
      omega

/-- The block's tokens: with the projection's row `d` laid out as `w`, patch `p`'s 16 positions of 32 channels against it. -/
theorem token_apply {v : FVec Ideal S32x64x256 .f32} {s : Fin 32 → Fin 32 → Fin 512 → EReal} (hv : Holds v s)
    (W1 W2 : FVec Ideal S256x768 .f32) (w : Fin 512 → Fin 768 → EReal)
    (h1 : ∀ (k : Fin 256) (d : Fin 768), W1 (ix2 k d) = w ⟨k.val % 32 * 16 + k.val / 32, by omega⟩ d)
    (h2 : ∀ (k : Fin 256) (d : Fin 768), W2 (ix2 k d) = w ⟨k.val % 32 * 16 + (k.val / 32 + 8), by omega⟩ d)
    (b : Fin 32) (p : Fin 64) (d : Fin 768) :
    k0_pay4 (F := Ideal) (k0_pay1 v) (k0_pay2 v) (k0_pay3 v) (Scalar.ofBits .f32 0x3F800000#32) W1 W2
        (ix2 ⟨b.val * 64 + p.val, by omega⟩ d)
      = ∑ k : Fin 512, standBySquares eps (s b ⟨k.val / 16, by omega⟩) ⟨min (p.val * 8 + k.val % 16) 511, by omega⟩ * w k d := by
  let f : ℕ → ℕ → EReal := fun c j => if h : c < 32 ∧ j < 16 then
    standBySquares eps (s b ⟨c, h.1⟩) ⟨min (p.val * 8 + j) 511, by omega⟩ * w ⟨c * 16 + j, by omega⟩ d else 0
  have hf : ∀ (c j : ℕ) (hc : c < 32) (hj : j < 16), f c j
      = standBySquares eps (s b ⟨c, hc⟩) ⟨min (p.val * 8 + j) 511, by omega⟩ * w ⟨c * 16 + j, by omega⟩ d :=
    fun c j hc hj => dif_pos ⟨hc, hj⟩
  rw [pay4_eq]
  show addf (matmul _ none (blockPatches v) _ _) (matmul _ none (following (blockPatches v)) _ _) _ = _
  rw [products_apply]
  refine Eq.trans ?_ (Eq.trans (sum_patch f).symm ?_)
  · refine congr (congrArg HAdd.hAdd (Finset.sum_congr rfl fun k _ => ?_)) (Finset.sum_congr rfl fun k _ => ?_)
    · rw [blockPatches_apply hv, h1, hf _ _ (by omega) (by omega)]
      refine congrArg (· * _) (congr (congrArg (fun b => standBySquares eps (s b _)) (Fin.ext ?_)) (Fin.ext ?_))
      · show (b.val * 64 + p.val) / 64 = b.val
        omega
      · show (b.val * 64 + p.val) % 64 * 8 + k.val / 32 = min (p.val * 8 + k.val / 32) 511
        omega
    · rw [blockFollowing_apply hv, h2, hf _ _ (by omega) (by omega)]
      refine congrArg (· * _) (congr (congrArg (fun b => standBySquares eps (s b _)) (Fin.ext ?_)) (Fin.ext ?_))
      · show (b.val * 64 + p.val) / 64 = b.val
        omega
      · show min ((b.val * 64 + p.val) % 64 * 8 + (k.val / 32 + 8)) 511 = min (p.val * 8 + (k.val / 32 + 8)) 511
        omega
  · refine Finset.sum_congr rfl fun k _ => ?_
    rw [hf _ _ (by omega) (by omega)]
    refine congrArg (_ * ·) (congrArg (fun k => w k d) (Fin.ext ?_))
    show k.val / 16 * 16 + k.val % 16 = k.val
    omega

end Cert.Tokens

end
-- ==== Proof.Digits.lean ====
module

public import Idealize.ShloMosaic.PureOps.Ideal
public import Idealize.ShloMosaic.PureOps.Ideal.Laws

/- Taking the decimal digits of a time stamp. At a divisor `b`, one program takes the digit ⌊t · (1/b)⌋, the other
   (t − t mod b) / b with the truncated remainder; both go on with t − digit · b. For a time stamp that is not negative
   the two take the same seven digits. Where t is +∞ the digit is +∞ and what is left is −∞ on both sides, and from −∞
   both take −∞ and keep −∞. -/

@[expose] public section

noncomputable section

namespace Cert.Tokens

open Idealize.ShloMosaic

/-- The digit at divisor `b`, by rounding `t · (1/b)` down. -/
def floorDigit (b : ℝ) (t : EReal) : EReal := Ideal.liftRound Int.floor (t * ((1 / b : ℝ) : EReal))

/-- The digit at divisor `b`, by the truncated remainder. -/
def remDigit (b : ℝ) (t : EReal) : EReal := Ideal.div (t - Ideal.remf t (b : EReal)) (b : EReal)

/-- What is left of `t` once `digit b t` times `b` is taken off. -/
def leave (digit : ℝ → EReal → EReal) (b : ℝ) (t : EReal) : EReal := t - digit b t * (b : EReal)

/-- What each of the seven steps starts from: divisors 10000, 1000, 100, 10 and 1 in turn, then twice divisor 1 after a
    multiplication by 10. -/
def stage (digit : ℝ → EReal → EReal) (t : EReal) : Fin 7 → EReal
  | 0 => t
  | 1 => leave digit 10000 t
  | 2 => leave digit 1000 (leave digit 10000 t)
  | 3 => leave digit 100 (leave digit 1000 (leave digit 10000 t))
  | 4 => leave digit 10 (leave digit 100 (leave digit 1000 (leave digit 10000 t)))
  | 5 => leave digit 1 (leave digit 10 (leave digit 100 (leave digit 1000 (leave digit 10000 t)))) * ((10 : ℝ) : EReal)
  | 6 => leave digit 1 (leave digit 1 (leave digit 10 (leave digit 100 (leave digit 1000 (leave digit 10000 t)))) *
      ((10 : ℝ) : EReal)) * ((10 : ℝ) : EReal)

/-- The divisor of each step. -/
def divisor : Fin 7 → ℝ
  | 0 => 10000
  | 1 => 1000
  | 2 => 100
  | 3 => 10
  | 4 => 1
  | 5 => 1
  | 6 => 1

/-- The seven digits of `t`. -/
def digitOf (digit : ℝ → EReal → EReal) (t : EReal) (i : Fin 7) : EReal := digit (divisor i) (stage digit t i)

/-- Not negative, or −∞: what every step's start is, if the time stamp is not negative. -/
def Ok (t : EReal) : Prop := 0 ≤ t ∨ t = ⊥

/-- Such a value is +∞, −∞, or a real that is not negative. -/
theorem Ok.cases {t : EReal} (h : Ok t) : t = ⊤ ∨ t = ⊥ ∨ ∃ a : ℝ, 0 ≤ a ∧ t = a := by
  induction t with
  | bot => exact Or.inr (Or.inl rfl)
  | top => exact Or.inl rfl
  | coe a =>
    refine Or.inr (Or.inr ⟨a, ?_, rfl⟩)
    rcases h with h | h
    · exact_mod_cast h
    · exact absurd h (EReal.coe_ne_bot a)

/-- At a positive divisor and a start that is not negative, or −∞, the two digits are one. -/
theorem digit_eq {b : ℝ} (hb : 0 < b) {t : EReal} (h : Ok t) : remDigit b t = floorDigit b t := by
  unfold remDigit floorDigit
  rw [Ideal.div_coe hb.ne']
  have hi : 0 < 1 / b := one_div_pos.mpr hb
  rcases h.cases with rfl | rfl | ⟨a, ha, rfl⟩
  · rw [Ideal.remf_top, EReal.top_sub_bot, EReal.top_mul_coe_of_pos hi]
    rfl
  · rw [Ideal.remf_bot, sub_eq_add_neg, EReal.bot_add, EReal.bot_mul_coe_of_pos hi]
    rfl
  · rw [Ideal.remf_coe, if_neg hb.ne', ← EReal.coe_sub, ← EReal.coe_mul, ← EReal.coe_mul]
    have hq : 0 ≤ a / b := div_nonneg ha hb.le
    rw [Ideal.truncInt, if_pos hq, mul_one_div a b]
    show (((a - (a - b * (⌊a / b⌋ : ℝ))) * (1 / b) : ℝ) : EReal) = ((⌊a / b⌋ : ℝ) : EReal)
    rw [sub_sub_cancel, mul_one_div, mul_div_cancel_left₀ _ hb.ne']

/-- What a step leaves is again not negative, or −∞. -/
theorem Ok.leave {b : ℝ} (hb : 0 < b) {t : EReal} (h : Ok t) : Ok (leave floorDigit b t) := by
  unfold Tokens.leave floorDigit
  have hi : 0 < 1 / b := one_div_pos.mpr hb
  rcases h.cases with rfl | rfl | ⟨a, ha, rfl⟩
  · right
    rw [EReal.top_mul_coe_of_pos hi]
    show ⊤ - ⊤ * (b : EReal) = ⊥
    rw [EReal.top_mul_coe_of_pos hb]
    simp [sub_eq_add_neg]
  · right
    rw [sub_eq_add_neg, EReal.bot_add]
  · left
    rw [← EReal.coe_mul, mul_one_div]
    show 0 ≤ (a : EReal) - ((⌊a / b⌋ : ℝ) : EReal) * (b : EReal)
    rw [← EReal.coe_mul, ← EReal.coe_sub]
    have : (⌊a / b⌋ : ℝ) * b ≤ a := (le_div_iff₀ hb).mp (Int.floor_le (a / b))
    exact_mod_cast sub_nonneg.mpr this

/-- Multiplication by a positive real keeps a value such. -/
theorem Ok.scale {c : ℝ} (hc : 0 < c) {t : EReal} (h : Ok t) : Ok (t * (c : EReal)) := by
  rcases h with h | rfl
  · exact Or.inl (mul_nonneg h (by exact_mod_cast hc.le))
  · exact Or.inr (EReal.bot_mul_coe_of_pos hc)

/-- Every divisor is positive. -/
theorem divisor_pos (i : Fin 7) : 0 < divisor i := by
  fin_cases i <;> simp [divisor]

/-- Every step of the first program starts from a value that is not negative, or −∞. -/
theorem Ok.stage {t : EReal} (h : Ok t) (i : Fin 7) : Ok (stage floorDigit t i) := by
  have h1 := h.leave (b := 10000) (by norm_num)
  have h2 := h1.leave (b := 1000) (by norm_num)
  have h3 := h2.leave (b := 100) (by norm_num)
  have h4 := h3.leave (b := 10) (by norm_num)
  have h5 := (h4.leave (b := 1) (by norm_num)).scale (c := 10) (by norm_num)
  have h6 := (h5.leave (b := 1) (by norm_num)).scale (c := 10) (by norm_num)
  match i with
  | 0 => exact h
  | 1 => exact h1
  | 2 => exact h2
  | 3 => exact h3
  | 4 => exact h4
  | 5 => exact h5
  | 6 => exact h6

/-- Both digits leave the same value for the next step. -/
theorem leave_eq {b : ℝ} (hb : 0 < b) {t : EReal} (h : Ok t) : leave remDigit b t = leave floorDigit b t := by
  unfold Tokens.leave
  rw [digit_eq hb h]

/-- The two programs' steps start from the same values. -/
theorem stage_eq {t : EReal} (h : Ok t) (i : Fin 7) : stage remDigit t i = stage floorDigit t i := by
  have e1 := leave_eq (b := 10000) (by norm_num) (h.stage 0)
  have e2 := leave_eq (b := 1000) (by norm_num) (h.stage 1)
  have e3 := leave_eq (b := 100) (by norm_num) (h.stage 2)
  have e4 := leave_eq (b := 10) (by norm_num) (h.stage 3)
  have e5 := leave_eq (b := 1) (by norm_num) (h.stage 4)
  have e6 := leave_eq (b := 1) (by norm_num) (h.stage 5)
  simp only [Tokens.stage] at e1 e2 e3 e4 e5 e6
  match i with
  | 0 => rfl
  | 1 => simp only [Tokens.stage, e1]
  | 2 => simp only [Tokens.stage, e1, e2]
  | 3 => simp only [Tokens.stage, e1, e2, e3]
  | 4 => simp only [Tokens.stage, e1, e2, e3, e4]
  | 5 => simp only [Tokens.stage, e1, e2, e3, e4, e5]
  | 6 => simp only [Tokens.stage, e1, e2, e3, e4, e5, e6]

/-- The two programs take the same seven digits of a time stamp that is not negative. -/
theorem digitOf_eq {t : EReal} (h : 0 ≤ t) (i : Fin 7) : digitOf remDigit t i = digitOf floorDigit t i := by
  unfold digitOf
  rw [stage_eq (Or.inl h) i, digit_eq (divisor_pos i) (Ok.stage (Or.inl h) i)]

/-! ## The table row of a digit -/

/-- The table row of a digit, as a word: the digit as an integer, held between 0 and 9. -/
def rowWord (d : EReal) : BitVec 32 := IntOp.minsi 9#32 (IntOp.maxsi 0#32 (Ideal.fptosi 32 d))

/-- A word held between 0 and 9 is the word of one of the ten rows. -/
theorem clip_row (w : BitVec 32) : ∃ k : Fin 10, IntOp.minsi 9#32 (IntOp.maxsi 0#32 w) = BitVec.ofNat 32 k.val := by
  have hlo : (0 : ℤ) ≤ (IntOp.minsi 9#32 (IntOp.maxsi 0#32 w)).toInt := by
    unfold IntOp.minsi IntOp.maxsi
    simp only [BitVec.slt_eq_decide, BitVec.sle_eq_decide, decide_eq_true_eq]
    split <;> split <;> simp_all <;> omega
  have hhi : (IntOp.minsi 9#32 (IntOp.maxsi 0#32 w)).toInt ≤ 9 := by
    unfold IntOp.minsi IntOp.maxsi
    simp only [BitVec.slt_eq_decide, BitVec.sle_eq_decide, decide_eq_true_eq]
    split <;> split <;> simp_all <;> omega
  generalize IntOp.minsi 9#32 (IntOp.maxsi 0#32 w) = v at hlo hhi
  have hv : v.toNat < 10 := by
    have := BitVec.toInt_eq_toNat_cond v
    split at this <;> omega
  exact ⟨⟨v.toNat, hv⟩, by simp⟩

/-- The table row of a digit. -/
def row (d : EReal) : Fin 10 := (clip_row (Ideal.fptosi 32 d)).choose

/-- The clipped word is the word of the row. -/
theorem rowWord_eq (d : EReal) : rowWord d = BitVec.ofNat 32 (row d).val := (clip_row (Ideal.fptosi 32 d)).choose_spec

end Cert.Tokens

end
-- ==== Proof.KernelDigits.lean ====
module

public import proofs.«01_k».proof.Proof.Gen.KernelIdeal.Skeleton
public import proofs.«01_k».proof.Proof.Digits
public import proofs.«01_k».proof.Proof.Regroup
public import proofs.«01_k».proof.Proof.Constants
public import Idealize.ShloMosaic.Lib.Pointwise

/- The kernel's time embedding on one block of 32 series: the digits, how often each table row is chosen, and the sum of the
   chosen rows. -/

@[expose] public section

set_option maxRecDepth 16384

noncomputable section

namespace Cert.Tokens

open Cert.KernelIdeal Cert.KernelIdeal.Gen Idealize.ShloMosaic

/-- One digit of every time stamp: times the reciprocal `c`, rounded down. -/
def floorsBy (c : Ideal .f32) (t : FVec Ideal S32x64 .f32) : FVec Ideal S32x64 .f32 := floor (mulf t (broadcast S32x64 c))

/-- What is left of every time stamp after that digit, at divisor `w`. -/
def restBy (c w : Ideal .f32) (t : FVec Ideal S32x64 .f32) : FVec Ideal S32x64 .f32 :=
  subf t (mulf (floorsBy c t) (broadcast S32x64 w))

/-- Every entry times `c`. -/
def timesAll (c : Ideal .f32) (t : FVec Ideal S32x64 .f32) : FVec Ideal S32x64 .f32 := mulf t (broadcast S32x64 c)

/-- One at the table row of every digit, nothing at the other rows. -/
def chosen (d : FVec Ideal S32x64 .f32) : FVec Ideal S32x64x16 .f32 :=
  sitofp .f32 (extui 32 (cmpi .eq
    (broadcastTo S32x64x16 (shapeCast S32x64x1 (minsi (broadcast S32x64 9#32) (maxsi (broadcast S32x64 0#32) (fptosi 32 d)))
      shapeCasts_S32x64_S32x64x1) broadcasts_S32x64x1_S32x64x16)
    (iota .tc S32x64x16 32 [2] iota_S32x64x16_d2_w32)) natLt_1_32)

/-- The block's digits at an index. -/
theorem floorsBy_apply {c : Ideal .f32} {r : ℝ} (hc : c = ((1 / r : ℝ) : EReal)) (t : FVec Ideal S32x64 .f32) (b : Fin 32)
    (p : Fin 64) : floorsBy c t (ix2 b p) = floorDigit r (t (ix2 b p)) := by
  unfold floorDigit
  rw [← hc]
  pointwise [floorsBy]

/-- What a step leaves, at an index. -/
theorem restBy_apply {c w : Ideal .f32} {r : ℝ} (hc : c = ((1 / r : ℝ) : EReal)) (hw : w = (r : EReal))
    (t : FVec Ideal S32x64 .f32) (b : Fin 32) (p : Fin 64) : restBy c w t (ix2 b p) = leave floorDigit r (t (ix2 b p)) := by
  unfold leave
  rw [← floorsBy_apply hc, ← hw]
  pointwise [restBy]

/-- A block multiplied by a constant, at an index. -/
theorem timesAll_apply (c : Ideal .f32) (t : FVec Ideal S32x64 .f32) (b : Fin 32) (p : Fin 64) :
    timesAll c t (ix2 b p) = t (ix2 b p) * c := by
  pointwise [timesAll]

/-- Multiplication by one changes nothing. -/
theorem timesAll_one {c : Ideal .f32} (hc : c = ((1 : ℝ) : EReal)) (t : FVec Ideal S32x64 .f32) : timesAll c t = t := by
  funext i
  rw [eq_ix2 i]
  refine (timesAll_apply c t (i 0) (i 1)).trans ?_
  rw [hc, EReal.coe_one, mul_one]

/-- The one-hot rows at an index: one where the entry is the digit's row. -/
theorem chosen_apply (d : FVec Ideal S32x64 .f32) (b : Fin 32) (p : Fin 64) (e : Fin 16) :
    chosen d (ix3 b p e) = oneAt (row (d (ix2 b p))).val e.val := by
  rw [← bit_eq_oneAt _ _ (by omega) (by omega), ← rowWord_eq]
  unfold rowWord
  pointwise [chosen]
  rfl

/-! The named reciprocals, and the number of a bit pattern. -/

/-- The named reciprocals. -/
abbrev inv10000 : Ideal .f32 := Named.named κ "inv_10000" 0x38D1B717#32
abbrev inv1000 : Ideal .f32 := Named.named κ "inv_1000" 0x3A83126F#32
abbrev inv100 : Ideal .f32 := Named.named κ "inv_100" 0x3C23D70A#32
abbrev inv10 : Ideal .f32 := Named.named κ "inv_10" 0x3DCCCCCD#32
/-- A literal. -/
abbrev lit (w : BitVec 32) : Ideal .f32 := Scalar.ofBits .f32 w

/-- The named reciprocals' and the literals' values. -/
theorem inv10000_eq : inv10000 = ((1 / 10000 : ℝ) : EReal) := IdealRules.named_const.ideal_named_scalar _ _ _ _ rfl
theorem inv1000_eq : inv1000 = ((1 / 1000 : ℝ) : EReal) := IdealRules.named_const.ideal_named_scalar _ _ _ _ rfl
theorem inv100_eq : inv100 = ((1 / 100 : ℝ) : EReal) := IdealRules.named_const.ideal_named_scalar _ _ _ _ rfl
theorem inv10_eq : inv10 = ((1 / 10 : ℝ) : EReal) := IdealRules.named_const.ideal_named_scalar _ _ _ _ rfl
theorem one_eq : lit 0x3F800000#32 = ((1 : ℝ) : EReal) := ofBits_1
theorem inv1_eq : lit 0x3F800000#32 = ((1 / 1 : ℝ) : EReal) := by rw [div_one]; exact ofBits_1

theorem ten_thousand_eq : lit 0x461C4000#32 = ((10000 : ℝ) : EReal) := ofBits_10000
theorem thousand_eq : lit 0x447A0000#32 = ((1000 : ℝ) : EReal) := ofBits_1000
theorem hundred_eq : lit 0x42C80000#32 = ((100 : ℝ) : EReal) := ofBits_100
theorem ten_eq : lit 0x41200000#32 = ((10 : ℝ) : EReal) := ofBits_10

/-- What the seven steps start from. -/
def blockStage (x : FVec Ideal S32x64 .f32) : Fin 7 → FVec Ideal S32x64 .f32
  | 0 => k0_pay6 x
  | 1 => k0_pay8 x
  | 2 => k0_pay11 x
  | 3 => k0_pay14 (k0_pay13 x)
  | 4 => k0_pay17 (k0_pay13 x)
  | 5 => timesAll (lit 0x41200000#32) (k0_pay19 (k0_pay13 x))
  | 6 => timesAll (lit 0x41200000#32) (restBy (lit 0x3F800000#32) (lit 0x3F800000#32)
      (timesAll (lit 0x41200000#32) (k0_pay19 (k0_pay13 x))))

/-- The reciprocals the seven steps multiply by. -/
def blockInv : Fin 7 → Ideal .f32
  | 0 => inv10000
  | 1 => inv1000
  | 2 => inv100
  | 3 => inv10
  | 4 => lit 0x3F800000#32
  | 5 => lit 0x3F800000#32
  | 6 => lit 0x3F800000#32

/-- Each step multiplies by its divisor's reciprocal. -/
theorem blockInv_eq (i : Fin 7) : blockInv i = ((1 / divisor i : ℝ) : EReal) := by
  match i with
  | 0 => exact inv10000_eq
  | 1 => exact inv1000_eq
  | 2 => exact inv100_eq
  | 3 => exact inv10_eq
  | 4 => exact inv1_eq
  | 5 => exact inv1_eq
  | 6 => exact inv1_eq

/-- What each step starts from, at an index. -/
theorem blockStage_apply (x : FVec Ideal S32x64 .f32) (i : Fin 7) (b : Fin 32) (p : Fin 64) :
    blockStage x i (ix2 b p) = stage floorDigit (x (ix2 b p)) i := by
  have s0 : blockStage x 0 = x := timesAll_one one_eq x
  have s1 : blockStage x 1 = restBy inv10000 (lit 0x461C4000#32) (blockStage x 0) := timesAll_one one_eq _
  have s2 : blockStage x 2 = restBy inv1000 (lit 0x447A0000#32) (blockStage x 1) := timesAll_one one_eq _
  have s3 : blockStage x 3 = restBy inv100 (lit 0x42C80000#32) (blockStage x 2) := timesAll_one one_eq _
  have s4 : blockStage x 4 = restBy inv10 (lit 0x41200000#32) (blockStage x 3) := timesAll_one one_eq _
  have s5 : blockStage x 5 = timesAll (lit 0x41200000#32) (restBy (lit 0x3F800000#32) (lit 0x3F800000#32) (blockStage x 4)) := rfl
  have s6 : blockStage x 6 = timesAll (lit 0x41200000#32) (restBy (lit 0x3F800000#32) (lit 0x3F800000#32) (blockStage x 5)) := rfl
  have t0 : blockStage x 0 (ix2 b p) = stage floorDigit (x (ix2 b p)) 0 := by rw [s0]; rfl
  have t1 : blockStage x 1 (ix2 b p) = stage floorDigit (x (ix2 b p)) 1 := by
    rw [s1, restBy_apply inv10000_eq ten_thousand_eq, t0]; rfl
  have t2 : blockStage x 2 (ix2 b p) = stage floorDigit (x (ix2 b p)) 2 := by
    rw [s2, restBy_apply inv1000_eq thousand_eq, t1]; rfl
  have t3 : blockStage x 3 (ix2 b p) = stage floorDigit (x (ix2 b p)) 3 := by
    rw [s3, restBy_apply inv100_eq hundred_eq, t2]; rfl
  have t4 : blockStage x 4 (ix2 b p) = stage floorDigit (x (ix2 b p)) 4 := by
    rw [s4, restBy_apply inv10_eq ten_eq, t3]; rfl
  have t5 : blockStage x 5 (ix2 b p) = stage floorDigit (x (ix2 b p)) 5 := by
    rw [s5, timesAll_apply, restBy_apply inv1_eq one_eq, t4]
    rw [ten_eq]; rfl
  have t6 : blockStage x 6 (ix2 b p) = stage floorDigit (x (ix2 b p)) 6 := by
    rw [s6, timesAll_apply, restBy_apply inv1_eq one_eq, t5]
    rw [ten_eq]; rfl
  match i with
  | 0 => exact t0
  | 1 => exact t1
  | 2 => exact t2
  | 3 => exact t3
  | 4 => exact t4
  | 5 => exact t5
  | 6 => exact t6

/-- The rows the seven digits choose. -/
def blockChosen (x : FVec Ideal S32x64 .f32) (i : Fin 7) : FVec Ideal S32x64x16 .f32 :=
  chosen (floorsBy (blockInv i) (blockStage x i))

/-- Each step's one-hot rows, at an index. -/
theorem blockChosen_apply (x : FVec Ideal S32x64 .f32) (i : Fin 7) (b : Fin 32) (p : Fin 64) (e : Fin 16) :
    blockChosen x i (ix3 b p e) = oneAt (row (digitOf floorDigit (x (ix2 b p)) i)).val e.val := by
  unfold blockChosen
  rw [chosen_apply, floorsBy_apply (blockInv_eq i), blockStage_apply]
  rfl

/-- How often each table row is chosen by the seven digits. -/
def blockCounts (x : FVec Ideal S32x64 .f32) : FVec Ideal S32x64x16 .f32 :=
  addf (addf (addf (addf (addf (addf (addf k0_pay5 (blockChosen x 0)) (blockChosen x 1)) (blockChosen x 2)) (blockChosen x 3))
    (blockChosen x 4)) (blockChosen x 5)) (blockChosen x 6)

/-- The counts are the seven steps' one-hot rows added in order. -/
theorem blockCounts_apply (x : FVec Ideal S32x64 .f32) (b : Fin 32) (p : Fin 64) (e : Fin 16) :
    blockCounts x (ix3 b p e) = blockChosen x 0 (ix3 b p e) + blockChosen x 1 (ix3 b p e) + blockChosen x 2 (ix3 b p e)
      + blockChosen x 3 (ix3 b p e) + blockChosen x 4 (ix3 b p e) + blockChosen x 5 (ix3 b p e) + blockChosen x 6 (ix3 b p e) := by
  pointwise [blockCounts, k0_pay5]

/-- The chosen rows' counts against a table sum the rows of the seven digits. -/
theorem counts_sum (x : FVec Ideal S32x64 .f32) (T : FVec Ideal S16x768 .f32) (b : Fin 32) (p : Fin 64) (d : Fin 768) :
    ∑ e : Fin 16, blockCounts x (ix3 b p e) * T (ix2 e d)
      = ∑ i : Fin 7, T (ix2 ⟨(row (digitOf floorDigit (x (ix2 b p)) i)).val, by omega⟩ d) := by
  simp only [blockCounts_apply, blockChosen_apply]
  rw [Fin.sum_univ_seven]
  exact sum_counts (fun e => T (ix2 e d)) fun i => ⟨(row (digitOf floorDigit (x (ix2 b p)) i)).val, by omega⟩

/-- The block's last step, with the counts named: tokens, plus the counts against the table, plus the bias. -/
theorem pay21_eq (V : FVec Ideal S2048x768 .f32) (x : FVec Ideal S32x64 .f32) (T : FVec Ideal S16x768 .f32)
    (B : FVec Ideal S1x768 .f32) :
    k0_pay21 (F := Ideal) V (iota .tc S32x64x16 32 [2] iota_S32x64x16_d2_w32)
        (k0_pay16 (iota .tc S32x64x16 32 [2] iota_S32x64x16_d2_w32) (k0_pay10 x k0_pay5) (k0_pay12 x) (k0_pay13 x))
        (k0_pay19 (k0_pay13 x)) (k0_pay20 (iota .tc S32x64x16 32 [2] iota_S32x64x16_d2_w32) (k0_pay13 x)) T B
      = shapeCast S32x64x768 (addf (addf V (matmul dot_S2048x16_S16x768_S2048x768_1_0_0_1_n_n none
          (shapeCast S2048x16 (blockCounts x) shapeCasts_S32x64x16_S2048x16)
          (shapeCast S16x768 T shapeCasts_S16x768_S16x768) (constant S2048x768 .f32 0x00000000#32)))
          (broadcastTo S2048x768 (shapeCast S1x768 B shapeCasts_S1x768_S1x768) broadcasts_S1x768_S2048x768))
          shapeCasts_S2048x768_S32x64x768 := rfl

/-- The block's stored value: the projection, plus the table rows of the seven digits, plus the bias. -/
theorem pay21_apply (V : FVec Ideal S2048x768 .f32) (x : FVec Ideal S32x64 .f32) (T : FVec Ideal S16x768 .f32)
    (B : FVec Ideal S1x768 .f32) (b : Fin 32) (p : Fin 64) (d : Fin 768) :
    k0_pay21 (F := Ideal) V (iota .tc S32x64x16 32 [2] iota_S32x64x16_d2_w32)
        (k0_pay16 (iota .tc S32x64x16 32 [2] iota_S32x64x16_d2_w32) (k0_pay10 x k0_pay5) (k0_pay12 x) (k0_pay13 x))
        (k0_pay19 (k0_pay13 x)) (k0_pay20 (iota .tc S32x64x16 32 [2] iota_S32x64x16_d2_w32) (k0_pay13 x)) T B (ix3 b p d)
      = V (ix2 ⟨b.val * 64 + p.val, by omega⟩ d)
        + ∑ i : Fin 7, T (ix2 ⟨(row (digitOf floorDigit (x (ix2 b p)) i)).val, by omega⟩ d) + B (ix2 0 d) := by
  rw [pay21_eq, ← counts_sum]
  generalize blockCounts x = C
  pointwise

end Cert.Tokens

end
-- ==== Proof.KernelBlock.lean ====
module

public import proofs.«01_k».proof.Proof.KernelEntry
public import proofs.«01_k».proof.Proof.KernelSeries
public import proofs.«01_k».proof.Proof.KernelDigits

/- What one grid point stores, from what its windows hold, and where each window's block lies in its array. -/

@[expose] public section

set_option maxRecDepth 16384

noncomputable section

namespace Cert.Tokens

open Cert.KernelIdeal Cert.KernelIdeal.Gen Idealize.ShloMosaic Idealize.ShloMosaic.TcCoe Idealize.SL.Sem

/-- The whole rectangle's offsets are zero. -/
theorem zero2 : (![0, 0] : Fin 2 → Nat) = fun _ => 0 := funext fun a => by fin_cases a <;> rfl
theorem zero3 : (![0, 0, 0] : Fin 3 → Nat) = fun _ => 0 := funext fun a => by fin_cases a <;> rfl

/-- One stored value, at series `b` of the block, patch `p` and coordinate `d`: the standardized patch against the weights,
    plus the seven digits' table rows, plus the bias. `s` is the block's series and `w` the weights that the first and second
    half of a patch meet. -/
theorem block_apply {x0 : FVec Ideal S32x64x256 .f32} {s : Fin 32 → Fin 32 → Fin 512 → EReal} (hs : Holds x0 s)
    (x1 : FVec Ideal S32x64 .f32) (x2 x3 : FVec Ideal S256x768 .f32) (x4 : FVec Ideal S1x768 .f32)
    (x5 : FVec Ideal S16x768 .f32) (w : Fin 512 → Fin 768 → EReal)
    (h2 : ∀ (k : Fin 256) (d : Fin 768), x2 (ix2 k d) = w ⟨k.val % 32 * 16 + k.val / 32, by omega⟩ d)
    (h3 : ∀ (k : Fin 256) (d : Fin 768), x3 (ix2 k d) = w ⟨k.val % 32 * 16 + (k.val / 32 + 8), by omega⟩ d)
    (b : Fin 32) (p : Fin 64) (d : Fin 768) :
    (out0_6 (F := Ideal) x0 x1 x2 x3 x4 x5 : FVec Ideal S32x64x768 .f32) (ix3 b p d)
      = (∑ k : Fin 512, standBySquares eps (s b ⟨k.val / 16, by omega⟩) ⟨min (p.val * 8 + k.val % 16) 511, by omega⟩ * w k d)
        + ∑ i : Fin 7, x5 (ix2 ⟨(row (digitOf floorDigit (x1 (ix2 b p)) i)).val, by omega⟩ d)
        + x4 (ix2 0 d) := by
  have h : out0_6 (F := Ideal) x0 x1 x2 x3 x4 x5 = k0_pay21 (F := Ideal)
      (k0_pay4 (k0_pay1 x0) (k0_pay2 x0) (k0_pay3 x0) (Scalar.ofBits .f32 0x3F800000#32) x2 x3)
      (iota .tc S32x64x16 32 [2] iota_S32x64x16_d2_w32)
      (k0_pay16 (iota .tc S32x64x16 32 [2] iota_S32x64x16_d2_w32) (k0_pay10 x1 k0_pay5) (k0_pay12 x1) (k0_pay13 x1))
      (k0_pay19 (k0_pay13 x1)) (k0_pay20 (iota .tc S32x64x16 32 [2] iota_S32x64x16_d2_w32) (k0_pay13 x1)) x5 x4 := by
    unfold out0_6 k0_pay22 k0_pay23
    have e0 : View.ld (Val := Elt Ideal) (e' := .f32) x0 r0_0 = x0 := View.ld_unit_zero zero3 _ _
    have e1 : View.ld (Val := Elt Ideal) (e' := .f32) x1 r0_2 = x1 := View.ld_unit_zero zero2 _ _
    have e2 : View.ld (Val := Elt Ideal) (e' := .f32) x2 r0_1 = x2 := View.ld_unit_zero zero2 _ _
    have e3 : View.ld (Val := Elt Ideal) (e' := .f32) x3 r0_1 = x3 := View.ld_unit_zero zero2 _ _
    have e4 : View.ld (Val := Elt Ideal) (e' := .f32) x4 r0_4 = x4 := View.ld_unit_zero zero2 _ _
    have e5 : View.ld (Val := Elt Ideal) (e' := .f32) x5 r0_3 = x5 := View.ld_unit_zero zero2 _ _
    rw [View.canon_unit_zero zero3, e0, e1, e2, e3, e4, e5]
  rw [h, pay21_apply, token_apply hs x2 x3 w h2 h3]

/-! ## Where the blocks lie -/

variable (m : (ℓ : Loc nD τ sig) → Buf (Elt Ideal) ℓ) (c : Dev nD)

/-- There are 32 grid points. -/
theorem point_lt (t : Fin cfg0.N) : t.val < 32 := t.isLt.trans_eq N_0

/-- Series `b` of grid point `t`'s block, in the whole array. -/
def series (t : Fin cfg0.N) (b : Fin 32) : Fin 1024 := ⟨t.val * 32 + b.val, by have := point_lt t; omega⟩

/-- The series window moves by one block per grid point. -/
theorem index0 (t : Fin cfg0.N) : win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0) t

/-- So does the result window. -/
theorem index6 (t : Fin cfg0.N) : win0_6.index t (0 : Fin 3) = t.val ∧ win0_6.index t (1 : Fin 3) = 0 ∧ win0_6.index t (2 : Fin 3) = 0 :=
  (by decide +kernel : ∀ t : Fin grid0.N, win0_6.index t (0 : Fin 3) = t.val ∧ win0_6.index t (1 : Fin 3) = 0 ∧ win0_6.index t (2 : Fin 3) = 0) t

/-- So does the time stamps' window. -/
theorem index1 (t : Fin cfg0.N) : win0_1.index t (0 : Fin 2) = t.val ∧ win0_1.index t (1 : Fin 2) = 0 :=
  (by decide +kernel : ∀ t : Fin grid0.N, win0_1.index t (0 : Fin 2) = t.val ∧ win0_1.index t (1 : Fin 2) = 0) t

/-- The other windows stay at their arrays' start. -/
theorem index2 (t : Fin cfg0.N) : ∀ a : Fin 2, win0_2.index t a = 0 :=
  (by decide +kernel : ∀ t : Fin grid0.N, ∀ a : Fin 2, win0_2.index t a = 0) t
theorem index3 (t : Fin cfg0.N) : ∀ a : Fin 2, win0_3.index t a = 0 :=
  (by decide +kernel : ∀ t : Fin grid0.N, ∀ a : Fin 2, win0_3.index t a = 0) t
theorem index4 (t : Fin cfg0.N) : ∀ a : Fin 2, win0_4.index t a = 0 :=
  (by decide +kernel : ∀ t : Fin grid0.N, ∀ a : Fin 2, win0_4.index t a = 0) t
theorem index5 (t : Fin cfg0.N) : ∀ a : Fin 2, win0_5.index t a = 0 :=
  (by decide +kernel : ∀ t : Fin grid0.N, ∀ a : Fin 2, win0_5.index t a = 0) t

/-- A block at its array's start, as large as the array, has every index in its own place. -/
theorem same_place {s : Shape} {f : s.Idx → s.Idx} {o : Fin s.rank → Nat} (ho : ∀ a, o a = 0)
    (hf : ∀ j a, (f j a).val = o a * s.size a + 1 * (j a).val) (j : s.Idx) : f j = j :=
  funext fun a => Fin.ext (by rw [hf, ho]; omega)

/-- The series window's block, in its array. -/
theorem place0 (t : Fin cfg0.N) (b : Fin 32) (p : Fin 64) (k : Fin 256) :
    ((cfg0.win 0).blk t).view.emb (ix3 b p k : S32x64x256.Idx) = (ix3 (series t b) p k : S1024x64x256.Idx) := by
  obtain ⟨e0, e1, e2⟩ := index0 t
  funext a
  apply Fin.ext
  match a with
  | ⟨0, _⟩ => show win0_0.index t (0 : Fin 3) * 32 + 1 * b.val = t.val * 32 + b.val; omega
  | ⟨1, _⟩ => show win0_0.index t (1 : Fin 3) * 64 + 1 * p.val = p.val; omega
  | ⟨2, _⟩ => show win0_0.index t (2 : Fin 3) * 256 + 1 * k.val = k.val; omega

/-- The result window's block, in its array. -/
theorem place6 (t : Fin cfg0.N) (b : Fin 32) (p : Fin 64) (d : Fin 768) :
    ((cfg0.win 6).blk t).view.emb (ix3 b p d : S32x64x768.Idx) = (ix3 (series t b) p d : S1024x64x768.Idx) := by
  obtain ⟨e0, e1, e2⟩ := index6 t
  funext a
  apply Fin.ext
  match a with
  | ⟨0, _⟩ => show win0_6.index t (0 : Fin 3) * 32 + 1 * b.val = t.val * 32 + b.val; omega
  | ⟨1, _⟩ => show win0_6.index t (1 : Fin 3) * 64 + 1 * p.val = p.val; omega
  | ⟨2, _⟩ => show win0_6.index t (2 : Fin 3) * 768 + 1 * d.val = d.val; omega

/-- The time stamps' block, in its array. -/
theorem place1 (t : Fin cfg0.N) (b : Fin 32) (p : Fin 64) :
    ((cfg0.win 1).blk t).view.emb (ix2 b p : S32x64.Idx) = (ix2 (series t b) p : S1024x64.Idx) := by
  obtain ⟨e0, e1⟩ := index1 t
  funext a
  apply Fin.ext
  match a with
  | ⟨0, _⟩ => show win0_1.index t (0 : Fin 2) * 32 + 1 * b.val = t.val * 32 + b.val; omega
  | ⟨1, _⟩ => show win0_1.index t (1 : Fin 2) * 64 + 1 * p.val = p.val; omega

/-- A window that stays holds its whole array. -/
theorem place2 (t : Fin cfg0.N) (j : S256x768.Idx) : ((cfg0.win 2).blk t).view.emb j = j :=
  same_place (s := S256x768) (index2 t) (fun _ _ => rfl) j
theorem place3 (t : Fin cfg0.N) (j : S256x768.Idx) : ((cfg0.win 3).blk t).view.emb j = j :=
  same_place (s := S256x768) (index3 t) (fun _ _ => rfl) j
theorem place4 (t : Fin cfg0.N) (j : S1x768.Idx) : ((cfg0.win 4).blk t).view.emb j = j :=
  same_place (s := S1x768) (index4 t) (fun _ _ => rfl) j
theorem place5 (t : Fin cfg0.N) (j : S16x768.Idx) : ((cfg0.win 5).blk t).view.emb j = j :=
  same_place (s := S16x768) (index5 t) (fun _ _ => rfl) j

end Cert.Tokens

end
-- ==== Proof.KernelValue.lean ====
module

public import proofs.«01_k».proof.Proof.KernelBlock

/- The kernel's whole result as one function of its arguments. -/

@[expose] public section

set_option maxRecDepth 16384

noncomputable section

namespace Cert.Tokens

open Cert.KernelIdeal Cert.KernelIdeal.Gen Cert.KernelIdeal.Value Idealize.ShloMosaic Idealize.ShloMosaic.TcCoe Idealize.SL.Sem

/-- What the kernel computes for series `b`, patch `p` and coordinate `d`. -/
def kernelAt (x : FVec Ideal S1024x32x512 .f32) (lc : FVec Ideal S1024x64 .f32) (w : FVec Ideal S768x512 .f32)
    (β : FVec Ideal S768 .f32) (e : FVec Ideal S7x10x768 .f32) (b : Fin 1024) (p : Fin 64) (d : Fin 768) : EReal :=
  (∑ k : Fin 512, standBySquares eps (fun i => x (ix3 b ⟨k.val / 16, by omega⟩ i))
      ⟨min (p.val * 8 + k.val % 16) 511, by omega⟩ * w (ix2 d k))
    + ∑ i : Fin 7, e (ix3 0 (row (digitOf floorDigit (lc (ix2 b p)) i)) d)
    + β (ix1 d)

/-- The kernel's result array. -/
def kernelArray (x : FVec Ideal S1024x32x512 .f32) (lc : FVec Ideal S1024x64 .f32) (w : FVec Ideal S768x512 .f32)
    (β : FVec Ideal S768 .f32) (e : FVec Ideal S7x10x768 .f32) : FVec Ideal S1024x64x768 .f32 :=
  fun i => kernelAt x lc w β e (i 0) (i 1) (i 2)

variable (m : (ℓ : Loc nD τ sig) → Buf (Elt Ideal) ℓ) (c : Dev nD)

/-- The kernel's result array from the arguments in memory. -/
abbrev resultArray : FVec Ideal S1024x64x768 .f32 :=
  kernelArray (argX m c) (argT m c) (argW m c) (argB m c) (argE m c)

/-! ## What a grid point's windows hold -/

/-- The block's series. -/
theorem held0 (t : Fin cfg0.N) :
    Holds (iblk m c 0 t : FVec Ideal S32x64x256 .f32) (fun b i s => argX m c (ix3 (series t b) i s)) := by
  intro b p k
  show (V m c main_call0_v1 : FVec Ideal S1024x64x256 .f32) (((cfg0.win 0).blk t).view.emb (ix3 b p k : S32x64x256.Idx)) = _
  rw [place0]
  exact entry_series_apply m c _ p k

/-- The block's time stamps. -/
theorem held1 (t : Fin cfg0.N) (b : Fin 32) (p : Fin 64) :
    (iblk m c 1 t : FVec Ideal S32x64 .f32) (ix2 b p) = argT m c (ix2 (series t b) p) := by
  show (V m c main_arg1 : FVec Ideal S1024x64 .f32) (((cfg0.win 1).blk t).view.emb (ix2 b p : S32x64.Idx)) = _
  rw [place1, V_main_arg1]

/-- The weights of a patch's first half. -/
theorem held2 (t : Fin cfg0.N) (k : Fin 256) (d : Fin 768) :
    (iblk m c 2 t : FVec Ideal S256x768 .f32) (ix2 k d) = argW m c (ix2 d ⟨k.val % 32 * 16 + k.val / 32, by omega⟩) := by
  show (V m c main_call0_v5 : FVec Ideal S256x768 .f32) (((cfg0.win 2).blk t).view.emb (ix2 k d : S256x768.Idx)) = _
  rw [place2]
  exact entry_first_apply m c k d

/-- The weights of a patch's second half. -/
theorem held3 (t : Fin cfg0.N) (k : Fin 256) (d : Fin 768) :
    (iblk m c 3 t : FVec Ideal S256x768 .f32) (ix2 k d) = argW m c (ix2 d ⟨k.val % 32 * 16 + (k.val / 32 + 8), by omega⟩) := by
  show (V m c main_call0_v8 : FVec Ideal S256x768 .f32) (((cfg0.win 3).blk t).view.emb (ix2 k d : S256x768.Idx)) = _
  rw [place3]
  exact entry_second_apply m c k d

/-- The bias. -/
theorem held4 (t : Fin cfg0.N) (d : Fin 768) : (iblk m c 4 t : FVec Ideal S1x768 .f32) (ix2 0 d) = argB m c (ix1 d) := by
  show (V m c main_call0_v12 : FVec Ideal S1x768 .f32) (((cfg0.win 4).blk t).view.emb (ix2 0 d : S1x768.Idx)) = _
  rw [place4]
  exact entry_bias_apply m c d

/-- The first table. -/
theorem held5 (t : Fin cfg0.N) (k : Fin 10) (d : Fin 768) :
    (iblk m c 5 t : FVec Ideal S16x768 .f32) (ix2 ⟨k.val, by omega⟩ d) = argE m c (ix3 0 k d) := by
  show (V m c main_call0_v11 : FVec Ideal S16x768 .f32) (((cfg0.win 5).blk t).view.emb (ix2 ⟨k.val, by omega⟩ d : S16x768.Idx)) = _
  rw [place5]
  exact entry_table_apply m c k d

/-! ## The result array -/

/-- What grid point `t` writes back is its block of the result array. -/
theorem written (t : Fin cfg0.N) :
    (dats m 0 c).flushed 6 t = ((cfg0.win 6).blk t).view.read (Elt Ideal) (resultArray m c) := by
  rw [flushed6]
  refine funext fun (j : S32x64x768.Idx) => ?_
  rw [eq_ix3 j]
  show (out0_6 (F := Ideal) (iblk m c 0 t) (iblk m c 1 t) (iblk m c 2 t) (iblk m c 3 t) (iblk m c 4 t) (iblk m c 5 t)
      : FVec Ideal S32x64x768 .f32) (ix3 (j 0) (j 1) (j 2))
    = resultArray m c (((cfg0.win 6).blk t).view.emb (ix3 (j 0) (j 1) (j 2) : S32x64x768.Idx))
  refine (block_apply (held0 m c t) _ _ _ _ _ (fun k d => argW m c (ix2 d k)) (held2 m c t) (held3 m c t)
    (j 0) (j 1) (j 2)).trans ?_
  refine Eq.trans ?_ (congrArg (resultArray m c) (place6 t (j 0) (j 1) (j 2)).symm)
  have e1 := held1 m c t (j 0) (j 1)
  have e4 := held4 m c t (j 2)
  show (_ + _ + _ : EReal) = _ + _ + _
  refine congrArg₂ (· + ·) (congrArg₂ (· + ·) rfl (Finset.sum_congr rfl fun i _ => ?_)) e4
  exact (held5 m c t _ _).trans (congrArg (fun v => argE m c (ix3 0 (row (digitOf floorDigit v i)) (j 2))) e1)

/-- Each place of a block is written by the block's grid point. -/
theorem filled_at (t : Fin cfg0.N) (b : Fin 32) (p : Fin 64) (d : Fin 768) :
    (ix3 (series t b) p d : S1024x64x768.Idx) ∈ ((cfg0.win 6).blk t).view.set := by
  have h := ((cfg0.win 6).blk t).view.emb_mem_set (ix3 b p d : S32x64x768.Idx)
  exact (place6 t b p d) ▸ h

/-- Each series is in some block. -/
theorem series_of (b : Fin 1024) : ∃ (t : Fin cfg0.N) (b' : Fin 32), series t b' = b :=
  ⟨⟨b.val / 32, by show b.val / 32 < grid0.N; rw [N_0]; omega⟩, ⟨b.val % 32, by omega⟩,
    Fin.ext (by show b.val / 32 * 32 + b.val % 32 = b.val; omega)⟩

/-- The blocks fill the result array. -/
theorem filled (i : S1024x64x768.Idx) :
    ∃ t : Fin cfg0.N, (cfg0.win 6).flush t = true ∧ i ∈ ((cfg0.win 6).blk t).view.set := by
  obtain ⟨t, b, h⟩ := series_of (i 0)
  refine ⟨t, flush0_6 t, ?_⟩
  have e : (ix3 (series t b) (i 1 : Fin 64) (i 2 : Fin 768) : S1024x64x768.Idx) = i := by
    rw [h]; exact (eq_ix3 i).symm
  have g := filled_at t b (i 1) (i 2)
  rwa [e] at g

/-- The array that the kernel leaves. -/
theorem final : (dats m 0 c).arrAt 6 cfg0.N = resultArray m c :=
  (dats m 0 c).arrAt_eq_of_cover 6 (resultArray m c) (fun t _ => written m c t) filled

/-- The kernel runs, its result is that array, and its arguments are as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = resultArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.Tokens

end
-- ==== Proof.Lookup.lean ====
module

public import proofs.«01_k».proof.Proof.Gen.ReferenceIdeal.Read
public import Idealize.ShloMosaic.Lib.Pointwise

/- The reference's two kinds of indexing, read at an index: the window gather that cuts a padded series into patches, and
   the lookup of a table row. -/

@[expose] public section

set_option maxRecDepth 16384

noncomputable section

namespace Cert.Tokens

open Cert.ReferenceIdeal Cert.ReferenceIdeal.Gen Cert.ReferenceIdeal.Read Idealize.ShloMosaic

/-- The patch gather at (batch, channel, patch, position): the series at the position's index word, read signed and held
    within the series. -/
theorem gather_patch {α : Type} (x : S1024x32x520.Idx → α) (w : IVec S64x16x1 32) (b : Fin 1024) (c : Fin 32) (n : Fin 64)
    (j : Fin 16) :
    Host.gather gather_S1024x32x520_S64x16x1_S1024x32x64x16_01_2_n_n_2_2_1024321 x w (ix4 b c n j)
      = x (ix3 b c ⟨min (w (ix3 n j 0)).toInt.toNat 519, by omega⟩) := by
  unfold Host.gather
  congr 1
  funext a
  refine Fin.ext ?_
  show GatherDims.start _ (ix4 b c n j) w a + GatherDims.batchCoord _ (ix4 b c n j) a
    + GatherDims.offCoord _ (ix4 b c n j) a = _
  rw [GatherDims.batchCoord_eq_zero _ _ _ List.not_mem_nil, Nat.add_zero]
  match a with
  | ⟨0, _⟩ =>
    show 0 + b.val = b.val
    exact Nat.zero_add _
  | ⟨1, _⟩ =>
    show 0 + c.val = c.val
    exact Nat.zero_add _
  | ⟨2, _⟩ =>
    have hs : GatherDims.siIdx gather_S1024x32x520_S64x16x1_S1024x32x64x16_01_2_n_n_2_2_1024321 (ix4 b c n j) ⟨0, by decide⟩
        = ix3 n j 0 := by
      funext a
      refine Fin.ext ?_
      match a with
      | ⟨0, _⟩ => rfl
      | ⟨1, _⟩ => rfl
      | ⟨2, _⟩ => rfl
    show GatherDims.start _ _ _ _ + GatherDims.offCoord _ _ _ = min (w (ix3 n j 0)).toInt.toNat 519
    rw [← hs]
    rfl

/-- The row gather at (batch, patch, lane): the table at the row word, read signed and held within the ten rows. -/
theorem gather_row_at {α : Type} (x : S10x768.Idx → α) (w : IVec S1024x64x1 32) (b : Fin 1024) (p : Fin 64) (d : Fin 768) :
    Host.gather gather_S10x768_S1024x64x1_S1024x64x768_2_0_n_n_0_2_1768 x w (ix3 b p d)
      = x (ix2 ⟨min (w (ix3 b p 0)).toInt.toNat 9, by omega⟩ d) := by
  unfold Host.gather
  congr 1
  funext a
  refine Fin.ext ?_
  show GatherDims.start _ (ix3 b p d) w a + GatherDims.batchCoord _ (ix3 b p d) a
    + GatherDims.offCoord _ (ix3 b p d) a = _
  rw [GatherDims.batchCoord_eq_zero _ _ _ List.not_mem_nil, Nat.add_zero]
  match a with
  | ⟨0, _⟩ =>
    have hs : GatherDims.siIdx gather_S10x768_S1024x64x1_S1024x64x768_2_0_n_n_0_2_1768 (ix3 b p d) ⟨0, by decide⟩
        = ix3 b p 0 := by
      funext a
      refine Fin.ext ?_
      match a with
      | ⟨0, _⟩ => rfl
      | ⟨1, _⟩ => rfl
      | ⟨2, _⟩ => rfl
    show GatherDims.start _ _ _ _ + GatherDims.offCoord _ _ _ = min (w (ix3 b p 0)).toInt.toNat 9
    rw [← hs]
    rfl
  | ⟨1, _⟩ =>
    show 0 + d.val = d.val
    exact Nat.zero_add _

/-- The row words as the lookup uses them: a negative word counts from the end, and a last axis of one component. -/
def wrapped (w : IVec S1024x64 32) : IVec S1024x64x1 32 :=
  broadcastInDim S1024x64x1 ![0, 1] bcast_S1024x64_S1024x64x1_0_1
    (select (cmpi .slt w (broadcastInDim S1024x64 ![] bcast_S_S1024x64 (constantI S_ 32 0#32)))
      (addi w (broadcastInDim S1024x64 ![] bcast_S_S1024x64 (constantI S_ 32 10#32))) w)

/-- Whether each wrapped word names one of the ten rows. -/
def within (w : IVec S1024x64 32) : IVec S1024x64 1 :=
  Host.reduce IntOp.andi
    (andi (cmpi .sge (wrapped w) (broadcastInDim S1024x64x1 ![] bcast_S_S1024x64x1 (constantI S_ 32 0#32)))
      (cmpi .sle (wrapped w) (broadcastInDim S1024x64x1 ![0, 1, 2] bcast_S1x1x1_S1024x64x1_0_1_2
        (broadcastInDim S1x1x1 ![2] bcast_S1_S1x1x1_2 (constantI S1 32 9#32)))))
    (constantI S_ 1 1#1) reducesTo_S1024x64x1_S1024x64_d2 h_S_

/-- The lookup of table rows: the row where the word names one, a filler elsewhere. -/
def rowsAt (T : FVec Ideal S10x768 .f32) (w : IVec S1024x64 32) : FVec Ideal S1024x64x768 .f32 :=
  select (broadcastInDim S1024x64x768 ![0, 1] bcast_S1024x64_S1024x64x768_0_1 (within w))
    (Host.gather gather_S10x768_S1024x64x1_S1024x64x768_2_0_n_n_0_2_1768 T (wrapped w))
    (broadcastInDim S1024x64x768 ![] bcast_S_S1024x64x768 (constant S_ .f32 0x7FC00000#32))

/-- A word under ten is not wrapped. -/
theorem wrapped_apply (w : IVec S1024x64 32) (b : Fin 1024) (p : Fin 64) (k : Fin 10)
    (hk : w (ix2 b p) = BitVec.ofNat 32 k.val) : wrapped w (ix3 b p 0) = BitVec.ofNat 32 k.val := by
  pointwise [wrapped]
  rw [hk]
  clear hk
  revert k
  decide

/-- A word under ten is in range. -/
theorem within_apply (w : IVec S1024x64 32) (b : Fin 1024) (p : Fin 64) (k : Fin 10)
    (hk : w (ix2 b p) = BitVec.ofNat 32 k.val) : within w (ix2 b p) = 1#1 := by
  have h := wrapped_apply w b p k hk
  pointwise [within]
  rw [Finset.univ_unique, Finset.fold_singleton]
  show IntOp.andi (IntOp.andi (IntOp.cmpi _ (wrapped w (ix3 b p 0)) _) (IntOp.cmpi _ (wrapped w (ix3 b p 0)) _)) _ = _
  rw [h]
  clear hk h
  revert k
  decide

/-- The lookup at a word that names row `k` is row `k` of the table. -/
theorem rowsAt_apply (T : FVec Ideal S10x768 .f32) (w : IVec S1024x64 32) (b : Fin 1024) (p : Fin 64) (d : Fin 768) (k : Fin 10)
    (hk : w (ix2 b p) = BitVec.ofNat 32 k.val) : rowsAt T w (ix3 b p d) = T (ix2 k d) := by
  have hr : (⟨min (BitVec.ofNat 32 k.val).toInt.toNat 9, by omega⟩ : Fin 10) = k := by
    clear hk
    revert k
    decide
  have hg := gather_row_at T (wrapped w) b p d
  simp only [wrapped_apply w b p k hk, hr] at hg
  pointwise [rowsAt]
  rw [within_apply w b p k hk, hg]
  rfl

end Cert.Tokens

end
-- ==== Proof.RefTokens.lean ====
module

public import proofs.«01_k».proof.Proof.Lookup
public import proofs.«01_k».proof.Proof.Standardize
public import proofs.«01_k».proof.Proof.Constants
public import Idealize.ShloMosaic.Lib.Tactic.CleanTypes

/- The reference's patch projection, read at an index. -/

@[expose] public section

set_option maxRecDepth 16384

noncomputable section

namespace Cert.Tokens

open Cert.ReferenceIdeal Cert.ReferenceIdeal.Gen Cert.ReferenceIdeal.Read Idealize.ShloMosaic

/-- The standardised series. -/
theorem ref_stand (x : FVec Ideal S1024x32x512 .f32) (b : Fin 1024) (c : Fin 32) (s : Fin 512) :
    val_main_v17 (F := Ideal) x (ix3 b c s) = standByDeviations eps (fun i => x (ix3 b c i)) s := by
  unfold standByDeviations
  rw [← ofBits_eps, ← ofBits_512]
  clean_types
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2, val_main_cst_3]

/-- The padded series: past its end, its last value. -/
theorem ref_padded (x : FVec Ideal S1024x32x512 .f32) (b : Fin 1024) (c : Fin 32) (s : Fin 520) :
    val_main_v21 (F := Ideal) x (ix3 b c s) = val_main_v17 (F := Ideal) x (ix3 b c ⟨min s.val 511, by omega⟩) := by
  clean_types
  pointwise [val_main_v21, val_main_v20, val_main_v19, val_main_v18]
  split
  next h => exact congrArg (fun i => val_main_v17 (F := Ideal) x (ix3 b c i)) (Fin.ext (by show s.val = min s.val 511; omega))
  next h => exact congrArg (fun i => val_main_v17 (F := Ideal) x (ix3 b c i)) (Fin.ext (by show 511 = min s.val 511; omega))

/-- Where patch `n`'s position `j` lies in the series. -/
theorem ref_position (n : Fin 64) (j : Fin 16) :
    (val_main_v36 (F := Ideal) (ix3 n j 0)).toInt.toNat = n.val * 8 + j.val := by
  clean_types
  pointwise [val_main_v36, val_main_v35, val_main_v34, val_main_v33, val_main_v32, val_main_v31, val_main_v30, val_main_v29,
    val_main_v28, val_main_v27, val_main_v26, val_main_v25, val_main_v24, val_main_v23, val_main_v22, val_main_c, val_main_c_4,
    val_main_c_5]
  revert n j
  decide +kernel

/-- The projection of the patches. -/
theorem ref_dot (x : FVec Ideal S1024x32x512 .f32) (w : FVec Ideal S768x512 .f32) (b : Fin 1024) (n : Fin 64) (d : Fin 768) :
    val_main_v41 (F := Ideal) x w (ix3 b n d)
      = ∑ k : Fin 512, val_main_v37 (F := Ideal) x (ix4 b ⟨k.val / 16, by omega⟩ n ⟨k.val % 16, by omega⟩) * w (ix2 d k) := by
  clean_types
  pointwise [val_main_v41, val_main_v40, val_main_v39, val_main_v38]

/-- The reference's tokens before the bias: patch `n`'s values, standardised, with the series held at its last value past its
    end, against the projection's row `d`. -/
theorem ref_token (x : FVec Ideal S1024x32x512 .f32) (w : FVec Ideal S768x512 .f32) (b : Fin 1024) (n : Fin 64) (d : Fin 768) :
    val_main_v41 (F := Ideal) x w (ix3 b n d)
      = ∑ k : Fin 512, standByDeviations eps (fun i => x (ix3 b ⟨k.val / 16, by omega⟩ i))
          ⟨min (n.val * 8 + k.val % 16) 511, by omega⟩ * w (ix2 d k) := by
  rw [ref_dot]
  refine Finset.sum_congr rfl fun k _ => congrArg (· * w (ix2 d k)) ?_
  unfold val_main_v37
  rw [gather_patch, ref_padded, ref_stand]
  refine congrArg (standByDeviations eps _) (Fin.ext ?_)
  show min (min (val_main_v36 (F := Ideal) (ix3 n ⟨k.val % 16, _⟩ 0)).toInt.toNat 519) 511 = min (n.val * 8 + k.val % 16) 511
  rw [ref_position]
  show min (min (n.val * 8 + k.val % 16) 519) 511 = min (n.val * 8 + k.val % 16) 511
  omega

end Cert.Tokens

end
-- ==== Proof.RefEmbedding.lean ====
module

public import proofs.«01_k».proof.Proof.RefTokens
public import proofs.«01_k».proof.Proof.Digits

/- The reference's time embedding and its whole result, read at an index. -/

@[expose] public section

set_option maxRecDepth 16384

noncomputable section

namespace Cert.Tokens

open Cert.ReferenceIdeal Cert.ReferenceIdeal.Gen Cert.ReferenceIdeal.Read Idealize.ShloMosaic

/-- The number with bits `w` at every (batch, patch). -/
def fill (w : BitVec 32) : FVec Ideal S1024x64 .f32 :=
  broadcastInDim S1024x64 ![] bcast_S_S1024x64 (constant (F := Ideal) S_ .f32 w)

/-- One digit of every time stamp: less its remainder, divided. -/
def digitsBy (w : BitVec 32) (t : FVec Ideal S1024x64 .f32) : FVec Ideal S1024x64 .f32 :=
  Host.divf (subf t (Host.remf t (fill w))) (fill w)

/-- What is left of every time stamp after that digit. -/
def leftBy (w : BitVec 32) (t : FVec Ideal S1024x64 .f32) : FVec Ideal S1024x64 .f32 :=
  subf t (mulf (digitsBy w t) (fill w))

/-- The row words of a tensor of digits. -/
def rowWords (d : FVec Ideal S1024x64 .f32) : IVec S1024x64 32 :=
  minsi (broadcastInDim S1024x64 ![] bcast_S_S1024x64 (id (constantI S_ 32 9#32)))
    (maxsi (broadcastInDim S1024x64 ![] bcast_S_S1024x64 (id (constantI S_ 32 0#32))) (fptosi 32 d))

/-- The digits at an index. -/
theorem digitsBy_apply (w : BitVec 32) (r : ℝ) (hw : Ideal.ofBits .f32 w = (r : EReal)) (t : FVec Ideal S1024x64 .f32)
    (b : Fin 1024) (p : Fin 64) : digitsBy w t (ix2 b p) = remDigit r (t (ix2 b p)) := by
  unfold remDigit
  rw [← hw]
  pointwise [digitsBy, fill]

/-- What a step leaves, at an index. -/
theorem leftBy_apply (w : BitVec 32) (r : ℝ) (hw : Ideal.ofBits .f32 w = (r : EReal)) (t : FVec Ideal S1024x64 .f32)
    (b : Fin 1024) (p : Fin 64) : leftBy w t (ix2 b p) = leave remDigit r (t (ix2 b p)) := by
  unfold leave
  rw [← digitsBy_apply w r hw, ← hw]
  pointwise [leftBy, fill]

/-- An array multiplied by a constant, at an index. -/
theorem scaled_apply (w : BitVec 32) (t : FVec Ideal S1024x64 .f32) (b : Fin 1024) (p : Fin 64) :
    mulf t (fill w) (ix2 b p) = t (ix2 b p) * Ideal.ofBits .f32 w := by
  pointwise [fill]

/-- Multiplication by one changes nothing. -/
theorem scaled_one (t : FVec Ideal S1024x64 .f32) : mulf t (fill 0x3F800000#32) = t := by
  funext i
  rw [eq_ix2 i]
  refine (scaled_apply _ t (i 0) (i 1)).trans ?_
  rw [ofBits_1, EReal.coe_one, mul_one]

/-- The clipped words at an index. -/
theorem rowWords_apply (d : FVec Ideal S1024x64 .f32) (b : Fin 1024) (p : Fin 64) :
    rowWords d (ix2 b p) = rowWord (d (ix2 b p)) := by
  unfold rowWord
  pointwise [rowWords]
  rfl

/-- The seven digits' tensors. -/
def refDigit (x : FVec Ideal S1024x64 .f32) : Fin 7 → FVec Ideal S1024x64 .f32
  | 0 => val_main_v50 (F := Ideal) x
  | 1 => val_main_v64 (F := Ideal) x
  | 2 => val_main_v79 (F := Ideal) x
  | 3 => val_main_v94 (F := Ideal) x
  | 4 => val_main_v109 (F := Ideal) x
  | 5 => val_main_v124 (F := Ideal) x
  | 6 => val_main_v139 (F := Ideal) x

/-- The seven tables. -/
def refTable (T : FVec Ideal S7x10x768 .f32) : Fin 7 → FVec Ideal S10x768 .f32
  | 0 => val_main_v57 (F := Ideal) T
  | 1 => val_main_v71 (F := Ideal) T
  | 2 => val_main_v86 (F := Ideal) T
  | 3 => val_main_v101 (F := Ideal) T
  | 4 => val_main_v116 (F := Ideal) T
  | 5 => val_main_v131 (F := Ideal) T
  | 6 => val_main_v146 (F := Ideal) T

/-- Table `i` at an index. -/
theorem refTable_apply (T : FVec Ideal S7x10x768 .f32) (i : Fin 7) (k : Fin 10) (d : Fin 768) :
    refTable T i (ix2 k d) = T (ix3 i k d) := by
  match i with
  | 0 => clean_types; pointwise [refTable, val_main_v57, val_main_v56]
  | 1 => clean_types; pointwise [refTable, val_main_v71, val_main_v70]
  | 2 => clean_types; pointwise [refTable, val_main_v86, val_main_v85]
  | 3 => clean_types; pointwise [refTable, val_main_v101, val_main_v100]
  | 4 => clean_types; pointwise [refTable, val_main_v116, val_main_v115]
  | 5 => clean_types; pointwise [refTable, val_main_v131, val_main_v130]
  | 6 => clean_types; pointwise [refTable, val_main_v146, val_main_v145]

/-- The reference's program from the digits on, as the lookups of this file. -/
theorem ref_result (x0 : FVec Ideal S1024x32x512 .f32) (x1 : FVec Ideal S1024x64 .f32) (x2 : FVec Ideal S768x512 .f32)
    (x3 : FVec Ideal S768 .f32) (x4 : FVec Ideal S7x10x768 .f32) :
    val_main_v149 (F := Ideal) x0 x1 x2 x3 x4 = addf (val_main_v44 (F := Ideal) x0 x2 x3)
      (addf (addf (addf (addf (addf (addf
        (rowsAt (refTable x4 0) (rowWords (refDigit x1 0)))
        (rowsAt (refTable x4 1) (rowWords (refDigit x1 1))))
        (rowsAt (refTable x4 2) (rowWords (refDigit x1 2))))
        (rowsAt (refTable x4 3) (rowWords (refDigit x1 3))))
        (rowsAt (refTable x4 4) (rowWords (refDigit x1 4))))
        (rowsAt (refTable x4 5) (rowWords (refDigit x1 5))))
        (rowsAt (refTable x4 6) (rowWords (refDigit x1 6)))) := rfl

/-- Each digit is the digit of the time stamp. -/
theorem refDigit_apply (x : FVec Ideal S1024x64 .f32) (i : Fin 7) (b : Fin 1024) (p : Fin 64) :
    refDigit x i (ix2 b p) = digitOf remDigit (x (ix2 b p)) i := by
  have s0 : val_main_v46 (F := Ideal) x = x := scaled_one x
  have s1 : val_main_v60 (F := Ideal) x = leftBy 0x461C4000#32 (val_main_v46 (F := Ideal) x) := scaled_one _
  have s2 : val_main_v75 (F := Ideal) x = leftBy 0x447A0000#32 (val_main_v60 (F := Ideal) x) := scaled_one _
  have s3 : val_main_v90 (F := Ideal) x = leftBy 0x42C80000#32 (val_main_v75 (F := Ideal) x) := scaled_one _
  have s4 : val_main_v105 (F := Ideal) x = leftBy 0x41200000#32 (val_main_v90 (F := Ideal) x) := scaled_one _
  have s5 : val_main_v120 (F := Ideal) x = mulf (leftBy 0x3F800000#32 (val_main_v105 (F := Ideal) x)) (fill 0x41200000#32) := rfl
  have s6 : val_main_v135 (F := Ideal) x = mulf (leftBy 0x3F800000#32 (val_main_v120 (F := Ideal) x)) (fill 0x41200000#32) := rfl
  have d0 : refDigit x 0 = digitsBy 0x461C4000#32 (val_main_v46 (F := Ideal) x) := rfl
  have d1 : refDigit x 1 = digitsBy 0x447A0000#32 (val_main_v60 (F := Ideal) x) := rfl
  have d2 : refDigit x 2 = digitsBy 0x42C80000#32 (val_main_v75 (F := Ideal) x) := rfl
  have d3 : refDigit x 3 = digitsBy 0x41200000#32 (val_main_v90 (F := Ideal) x) := rfl
  have d4 : refDigit x 4 = digitsBy 0x3F800000#32 (val_main_v105 (F := Ideal) x) := rfl
  have d5 : refDigit x 5 = digitsBy 0x3F800000#32 (val_main_v120 (F := Ideal) x) := rfl
  have d6 : refDigit x 6 = digitsBy 0x3F800000#32 (val_main_v135 (F := Ideal) x) := rfl
  unfold digitOf
  match i with
  | 0 => rw [d0, s0, digitsBy_apply _ _ ofBits_10000]; rfl
  | 1 => rw [d1, s1, s0, digitsBy_apply _ _ ofBits_1000, leftBy_apply _ _ ofBits_10000]; rfl
  | 2 => rw [d2, s2, s1, s0, digitsBy_apply _ _ ofBits_100, leftBy_apply _ _ ofBits_1000, leftBy_apply _ _ ofBits_10000]; rfl
  | 3 =>
    rw [d3, s3, s2, s1, s0, digitsBy_apply _ _ ofBits_10, leftBy_apply _ _ ofBits_100, leftBy_apply _ _ ofBits_1000,
      leftBy_apply _ _ ofBits_10000]
    rfl
  | 4 =>
    rw [d4, s4, s3, s2, s1, s0, digitsBy_apply _ _ ofBits_1, leftBy_apply _ _ ofBits_10, leftBy_apply _ _ ofBits_100,
      leftBy_apply _ _ ofBits_1000, leftBy_apply _ _ ofBits_10000]
    rfl
  | 5 =>
    rw [d5, s5, s4, s3, s2, s1, s0, digitsBy_apply _ _ ofBits_1, scaled_apply, ofBits_10, leftBy_apply _ _ ofBits_1,
      leftBy_apply _ _ ofBits_10, leftBy_apply _ _ ofBits_100, leftBy_apply _ _ ofBits_1000, leftBy_apply _ _ ofBits_10000]
    rfl
  | 6 =>
    rw [d6, s6, s5, s4, s3, s2, s1, s0, digitsBy_apply _ _ ofBits_1, scaled_apply, ofBits_10, leftBy_apply _ _ ofBits_1,
      scaled_apply, ofBits_10, leftBy_apply _ _ ofBits_1, leftBy_apply _ _ ofBits_10, leftBy_apply _ _ ofBits_100,
      leftBy_apply _ _ ofBits_1000, leftBy_apply _ _ ofBits_10000]
    rfl

/-- A lookup of the reference is the table's row at the time stamp's digit. -/
theorem ref_lookup (x1 : FVec Ideal S1024x64 .f32) (x4 : FVec Ideal S7x10x768 .f32) (i : Fin 7) (b : Fin 1024) (p : Fin 64)
    (d : Fin 768) : rowsAt (refTable x4 i) (rowWords (refDigit x1 i)) (ix3 b p d)
      = x4 (ix3 i (row (digitOf remDigit (x1 (ix2 b p)) i)) d) := by
  rw [rowsAt_apply _ _ b p d (row (digitOf remDigit (x1 (ix2 b p)) i))
    (by rw [rowWords_apply, refDigit_apply, rowWord_eq]), refTable_apply]

/-- The reference's tokens with the bias. -/
theorem ref_biased (x0 : FVec Ideal S1024x32x512 .f32) (x2 : FVec Ideal S768x512 .f32) (x3 : FVec Ideal S768 .f32)
    (b : Fin 1024) (p : Fin 64) (d : Fin 768) :
    val_main_v44 (F := Ideal) x0 x2 x3 (ix3 b p d) = val_main_v41 (F := Ideal) x0 x2 (ix3 b p d) + x3 (ix1 d) := by
  clean_types
  pointwise [val_main_v44, val_main_v43, val_main_v42]

/-- The reference's result at (batch, patch, lane). -/
theorem ref_at (x0 : FVec Ideal S1024x32x512 .f32) (x1 : FVec Ideal S1024x64 .f32) (x2 : FVec Ideal S768x512 .f32)
    (x3 : FVec Ideal S768 .f32) (x4 : FVec Ideal S7x10x768 .f32) (b : Fin 1024) (p : Fin 64) (d : Fin 768) :
    val_main_v149 (F := Ideal) x0 x1 x2 x3 x4 (ix3 b p d)
      = ((∑ k : Fin 512, standByDeviations eps (fun i => x0 (ix3 b ⟨k.val / 16, by omega⟩ i))
          ⟨min (p.val * 8 + k.val % 16) 511, by omega⟩ * x2 (ix2 d k)) + x3 (ix1 d))
        + ∑ i : Fin 7, x4 (ix3 i (row (digitOf remDigit (x1 (ix2 b p)) i)) d) := by
  rw [ref_result, ← ref_token, ← ref_biased, Fin.sum_univ_seven]
  simp only [← ref_lookup]
  rfl

end Cert.Tokens

end
-- ==== Proof.Equation.lean ====
module

public import proofs.«01_k».proof.Proof.KernelValue
public import proofs.«01_k».proof.Proof.RefEmbedding
public import proofs.«01_k».proof.Proof.Gen.Pre_digits_and_tables
public import proofs.«01_k».proof.Pre_digits_and_tables

/- The kernel's result array is the reference's, where the time stamps are not negative and the seven tables are equal. -/

@[expose] public section

set_option maxRecDepth 16384

noncomputable section

namespace Cert.Tokens

open Cert.KernelIdeal Cert.KernelIdeal.Gen Idealize.ShloMosaic

variable (x : FVec Ideal S1024x32x512 .f32) (lc : FVec Ideal S1024x64 .f32) (w : FVec Ideal S768x512 .f32)
  (β : FVec Ideal S768 .f32) (e : FVec Ideal S7x10x768 .f32)

/-- A comparison that reads one says that the first is at least the second. -/
theorem ge_of_cmp {u v : EReal} (h : Ideal.cmp .oge u v = 1#1) : v ≤ u := by
  by_contra hq
  exact absurd h (by simp [Ideal.cmp, hq])

/-- A comparison that reads one says that the two are equal. -/
theorem eq_of_cmp {u v : EReal} (h : Ideal.cmp .oeq u v = 1#1) : u = v := by
  by_contra hq
  exact absurd h (by simp [Ideal.cmp, hq])

/-- The precondition's first half: no time stamp is negative. -/
theorem codes_nonneg (h : (Cert.Pre_digits_and_tables.fn (F := Ideal) x lc w β e).1 = fun _ => 1#1) (b : Fin 1024) (p : Fin 64) :
    0 ≤ lc (ix2 b p) := by
  have h1 : Ideal.cmp .oge (lc (ix2 b p)) (Ideal.ofBits .f32 0x00000000#32) = 1#1 := congrFun h (ix2 b p)
  rw [ofBits_0] at h1
  exact ge_of_cmp h1

/-- The first table, repeated seven times, at an index. -/
theorem repeated_apply (i : Fin 7) (k : Fin 10) (d : Fin 768)
    (hs : Cert.Pre_digits_and_tables.S7x10x768.Slices ![0, 0, 0] Cert.Pre_digits_and_tables.S1x10x768)
    (hb : Cert.Pre_digits_and_tables.S1x10x768.BroadcastsInDim Cert.Pre_digits_and_tables.S7x10x768
      (![0, 1, 2] : Fin 3 → Fin Cert.Pre_digits_and_tables.S7x10x768.rank)) :
    broadcastInDim Cert.Pre_digits_and_tables.S7x10x768 ![0, 1, 2] hb
      (extractStridedSlice Cert.Pre_digits_and_tables.S1x10x768 ![0, 0, 0] e hs) (ix3 i k d) = e (ix3 0 k d) := by
  pointwise

/-- The precondition's second half: each table is the first. -/
theorem tables_equal (h : (Cert.Pre_digits_and_tables.fn (F := Ideal) x lc w β e).2 = fun _ => 1#1) (i : Fin 7) (k : Fin 10) (d : Fin 768) :
    e (ix3 i k d) = e (ix3 0 k d) := by
  have h1 := congrFun h (ix3 i k d)
  exact (eq_of_cmp h1).trans (repeated_apply e i k d _ _)

/-- One value of both results: standardizing by squares or by deviations is one, the digits of a time stamp that is not negative are
    one, each digit reads one table, and the bias may be added before or after. -/
theorem values_equal (hlc : ∀ b p, 0 ≤ lc (ix2 b p)) (he : ∀ i k d, e (ix3 i k d) = e (ix3 0 k d))
    (b : Fin 1024) (p : Fin 64) (d : Fin 768) :
    kernelAt x lc w β e b p d = Cert.ReferenceIdeal.Read.val_main_v149 (F := Ideal) x lc w β e (ix3 b p d) := by
  rw [ref_at]
  unfold kernelAt
  rw [add_right_comm]
  refine congrArg₂ (· + ·) (congrArg₂ (· + ·) (Finset.sum_congr rfl fun k _ => ?_) rfl) (Finset.sum_congr rfl fun i _ => ?_)
  · rw [stand_eq eps eps_pos]
  · rw [digitOf_eq (hlc b p), he i]

/-- The two results are one array. -/
theorem arrays_equal (hlc : ∀ b p, 0 ≤ lc (ix2 b p)) (he : ∀ i k d, e (ix3 i k d) = e (ix3 0 k d)) :
    kernelArray x lc w β e = Cert.ReferenceIdeal.Read.val_main_v149 (F := Ideal) x lc w β e := by
  refine funext fun (j : S1024x64x768.Idx) => ?_
  rw [eq_ix3 j]
  exact values_equal x lc w β e hlc he (j 0) (j 1) (j 2)

/-- Equal arguments, equal reference results. -/
theorem reference_congr {x x' : FVec Ideal S1024x32x512 .f32} {lc lc' : FVec Ideal S1024x64 .f32} {w w' : FVec Ideal S768x512 .f32}
    {β β' : FVec Ideal S768 .f32} {e e' : FVec Ideal S7x10x768 .f32} (h0 : x' = x) (h1 : lc' = lc) (h2 : w' = w) (h3 : β' = β)
    (h4 : e' = e) : Cert.ReferenceIdeal.Read.val_main_v149 (F := Ideal) x' lc' w' β' e'
      = Cert.ReferenceIdeal.Read.val_main_v149 (F := Ideal) x lc w β e := by
  rw [h0, h1, h2, h3, h4]

end Cert.Tokens

end
-- ==== Proof.lean ====
/- The certificate assembled. `Kernel` and `KernelIdeal` run, keep their arguments and leave every semaphore at zero: the
   generated frames. The reference is a straight line of host operations that declares no semaphore. `KernelIdeal` differs from
   `Kernel` by four named constants. And where no time stamp is negative and the seven tables are equal, the kernel's result array
   (Proof/KernelValue.lean) is the reference's (Proof/RefEmbedding.lean): Proof/Equation.lean. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_digits_and_tables
public import proofs.«01_k».proof.Proof.Equation

@[expose] public section

noncomputable section

namespace Cert.Proof

open Idealize.ShloMosaic Idealize.SL.Sem

/-- The printed kernel runs, keeps its arguments and ends with every semaphore at zero. -/
theorem kernel_frame : Cert.quiescent_Kernel := fun m ρ _ => Cert.Kernel.Gen.frame m ρ

/-- So does the idealized kernel. -/
theorem ideal_frame : Cert.quiescent_KernelIdeal := fun m ρ _ => Cert.KernelIdeal.Gen.frame m ρ

/-- So does the idealized kernel under the precondition. -/
theorem ideal_frame_pre : Cert.quiescent_KernelIdeal_pre_digits_and_tables := fun m ρ _ => Cert.KernelIdeal.Gen.frame m ρ

/-- So does the idealized reference. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- So does the idealized reference under the precondition. -/
theorem reference_frame_pre : Cert.quiescent_ReferenceIdeal_pre_digits_and_tables := fun m ρ _ => reference_frame m ρ trivial

/-- The four named constants: each is the number that its word rounds. -/
theorem constants : Cert.preserves_Kernel_KernelIdeal :=
  ⟨IdealRules.named_const.statement Cert.KernelIdeal.κ "inv_10000" .f32 0x38D1B717#32 ((1 / 10000 : ℝ) : EReal) rfl,
    IdealRules.named_const.statement Cert.KernelIdeal.κ "inv_1000" .f32 0x3A83126F#32 ((1 / 1000 : ℝ) : EReal) rfl,
    IdealRules.named_const.statement Cert.KernelIdeal.κ "inv_100" .f32 0x3C23D70A#32 ((1 / 100 : ℝ) : EReal) rfl,
    IdealRules.named_const.statement Cert.KernelIdeal.κ "inv_10" .f32 0x3DCCCCCD#32 ((1 / 10 : ℝ) : EReal) rfl⟩

/-- From memories that agree on the arguments, under the precondition, the kernel and the reference end with one result. -/
theorem equation : Cert.algebraic_KernelIdeal_ReferenceIdeal_pre_digits_and_tables := fun m ρ m' ρ' hpre agree =>
  ⟨fun c => Cert.Tokens.resultArray m c, Cert.Tokens.kernel_run m ρ,
    (θ_run Cert.ReferenceIdeal.defs _ _).mono (fun r h c => ⟨by
      refine (h c).1.trans ((Cert.ReferenceIdeal.Read.val_main_v149_eq (StableHlo.launchContents m' c)).trans ?_)
      exact (Cert.Tokens.reference_congr (agree c).1 (agree c).2.1 (agree c).2.2.1 (agree c).2.2.2.1 (agree c).2.2.2.2).trans
        (Cert.Tokens.arrays_equal _ _ _ _ _ (Cert.Tokens.codes_nonneg _ _ _ _ _ (hpre c).1)
          (Cert.Tokens.tables_equal _ _ _ _ _ (hpre c).2)).symm, (h c).2⟩) (Cert.ReferenceIdeal.Value.run m' ρ')⟩

/-- All claims. -/
theorem claim : Cert.Claim :=
  ⟨Cert.Kernel.Gen.facts, Cert.KernelIdeal.Gen.facts, Cert.ReferenceIdeal.Gen.facts, Cert.Pre_digits_and_tables.Gen.facts,
    kernel_frame, ideal_frame, ideal_frame_pre, reference_frame, reference_frame_pre, constants, equation⟩

end Cert.Proof

end
